-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v2_0) = v0 c
          ∧ r.2.mem ((c.tc : Thread Cert.NormReferenceIdeal.nD Cert.NormReferenceIdeal.τ).loc Cert.NormReferenceIdeal.main_v2_1) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v2) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hHead : Cert.Head.Facts) (hHeadIdeal : Cert.HeadIdeal.Facts) (hHeadReferenceIdeal : Cert.HeadReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Head (hHead := hHead)
    ∧ quiescent_HeadIdeal (hHeadIdeal := hHeadIdeal)
    ∧ quiescent_HeadReferenceIdeal (hHeadReferenceIdeal := hHeadReferenceIdeal)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormReferenceIdeal (hNormIdeal := hNormIdeal) (hNormReferenceIdeal := hNormReferenceIdeal)
    ∧ preserves_Head_HeadIdeal
    ∧ algebraic_HeadIdeal_HeadReferenceIdeal (hHeadIdeal := hHeadIdeal) (hHeadReferenceIdeal := hHeadReferenceIdeal)
-- ==== Kernel.lean ====
abbrev S3x512x1536 : Shape := ⟨3, ![3, 512, 1536]⟩
abbrev S3x512x128 : Shape := ⟨3, ![3, 512, 128]⟩
abbrev S1536x1536 : Shape := ⟨2, ![1536, 1536]⟩
abbrev S1536 : Shape := ⟨1, ![1536]⟩
abbrev S1x1536 : Shape := ⟨2, ![1, 1536]⟩
abbrev S1x512x1536 : Shape := ⟨3, ![1, 512, 1536]⟩
abbrev S1x512x128 : Shape := ⟨3, ![1, 512, 128]⟩
abbrev S512x128 : Shape := ⟨2, ![512, 128]⟩
abbrev S1x128x1536 : Shape := ⟨3, ![1, 128, 1536]⟩
abbrev S128x1536 : Shape := ⟨2, ![128, 1536]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 14
  | .vmem => 16
  | .smem => 0
  | _ => 0

abbrev bufTy : (tb : Table) → Fin (tcTables nBuf tb) → BufTy
  | .hbm, ⟨0, _⟩ => ⟨S3x512x1536, .bf16⟩
  | .hbm, ⟨1, _⟩ => ⟨S3x512x1536, .fp8e4m3⟩
  | .hbm, ⟨2, _⟩ => ⟨S3x512x128, .f32⟩
  | .hbm, ⟨3, _⟩ => ⟨S1536x1536, .fp8e4m3⟩
  | .hbm, ⟨4, _⟩ => ⟨S1536, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S3x512x1536, .bf16⟩
  | .hbm, ⟨13, _⟩ => ⟨S3x512x1536, .fp8e4m3⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .fp8e4m3⟩
  | .local _ .vmem, ⟨3, _⟩ => ⟨S1x512x1536, .fp8e4m3⟩
  | .local _ .vmem, ⟨4, _⟩ => ⟨S1x512x128, .f32⟩
  | .local _ .vmem, ⟨5, _⟩ => ⟨S1x512x128, .f32⟩
  | .local _ .vmem, ⟨6, _⟩ => ⟨S1536x1536, .fp8e4m3⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S1x512x1536, .bf16⟩
  | .local _ .vmem, ⟨12, _⟩ => ⟨S1x512x1536, .bf16⟩
  | .local _ .vmem, ⟨13, _⟩ => ⟨S1x512x1536, .fp8e4m3⟩
  | .local _ .vmem, ⟨14, _⟩ => ⟨S1x512x1536, .fp8e4m3⟩
  | .local _ .vmem, ⟨15, _⟩ => ⟨S512x128, .f32⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v1 : BitVec 32 := Scalar.muli arg12 c128_i32
  v1
def k0_off1 (k0_t1 : Fin k0_t1_loop.trips) : Fin 3 → Nat :=
  let c0 : Index := 0#32
  let c0_i32 : BitVec 32 := 0#32
  let c1_i32 : BitVec 32 := 1#32
  let arg12 : BitVec 32 := Scf.iv c0_i32 c1_i32 k0_t1
  let c128_i32 : BitVec 32 := 128#32
  let v1 : BitVec 32 := Scalar.muli arg12 c128_i32
  let v2 : BitVec 32 := v1
  let v3 : Index := Scalar.indexCast v2
  let c0_1 : Index := 0#32
  ![0, v3.toNat, 0]
def k0_off2 (k0_t1 : Fin k0_t1_loop.trips) : Fin 3 → Nat :=
  let c0_4 : Index := 0#32
  let c0_i32 : BitVec 32 := 0#32
  let c1_i32 : BitVec 32 := 1#32
  let arg12 : BitVec 32 := Scf.iv c0_i32 c1_i32 k0_t1
  let c128_i32 : BitVec 32 := 128#32
  let v1 : BitVec 32 := Scalar.muli arg12 c128_i32
  let v2 : BitVec 32 := v1
  let v8 : Index := Scalar.indexCast v2
  let c0_5 : Index := 0#32
  ![0, v8.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v1 : BitVec 32 := Scalar.muli arg12 c128_i32
  let v2 : BitVec 32 := v1
  let v157 : Index := Scalar.indexCast v2
  let c0_47 : Index := 0#32
  ![v157.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1536 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S3x512x1536 : Shape := ⟨3, ![3, 512, 1536]⟩
abbrev S3x512x128 : Shape := ⟨3, ![3, 512, 128]⟩
abbrev S1536x1536 : Shape := ⟨2, ![1536, 1536]⟩
abbrev S1536 : Shape := ⟨1, ![1536]⟩
abbrev S1x1x1536 : Shape := ⟨3, ![1, 1, 1536]⟩
abbrev S3x512x1 : Shape := ⟨3, ![3, 512, 1]⟩
abbrev S3x512 : Shape := ⟨2, ![3, 512]⟩
abbrev S1x1x246 : Shape := ⟨3, ![1, 1, 246]⟩
abbrev S3x512x246 : Shape := ⟨3, ![3, 512, 246]⟩

abbrev nBuf : Space → Nat
  | .hbm => 14
  | .vmem => 10
  | .smem => 0
  | _ => 0

abbrev bufTy : (tb : Table) → Fin (tcTables nBuf tb) → BufTy
  | .hbm, ⟨0, _⟩ => ⟨S3x512x1536, .bf16⟩
  | .hbm, ⟨1, _⟩ => ⟨S3x512x1536, .fp8e4m3⟩
  | .hbm, ⟨2, _⟩ => ⟨S3x512x128, .f32⟩
  | .hbm, ⟨3, _⟩ => ⟨S1536x1536, .fp8e4m3⟩
  | .hbm, ⟨4, _⟩ => ⟨S1536, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S1x1x1536, .f32⟩
  | .hbm, ⟨9, _⟩ => ⟨S1x1x1536, .f32⟩
  | .hbm, ⟨10, _⟩ => ⟨S1x1x1536, .f32⟩
  | .hbm, ⟨11, _⟩ => ⟨S1x1x1536, .f32⟩
  | .hbm, ⟨12, _⟩ => ⟨S3x512x1536, .bf16⟩
  | .hbm, ⟨13, _⟩ => ⟨S3x512x1536, .fp8e4m3⟩
  | .local _ .vmem, ⟨0, _⟩ => ⟨S3x512x1536, .bf16⟩
  | .local _ .vmem, ⟨1, _⟩ => ⟨S3x512x1536, .fp8e4m3⟩
  | .local _ .vmem, ⟨2, _⟩ => ⟨S3x512x128, .f32⟩
  | .local _ .vmem, ⟨3, _⟩ => ⟨S1536x1536, .fp8e4m3⟩
  | .local _ .vmem, ⟨4, _⟩ => ⟨S1x1x1536, .f32⟩
  | .local _ .vmem, ⟨5, _⟩ => ⟨S1x1x1536, .f32⟩
  | .local _ .vmem, ⟨6, _⟩ => ⟨S1x1x1536, .f32⟩
  | .local _ .vmem, ⟨7, _⟩ => ⟨S1x1x1536, .f32⟩
  | .local _ .vmem, ⟨8, _⟩ => ⟨S3x512x1536, .bf16⟩
  | .local _ .vmem, ⟨9, _⟩ => ⟨S3x512x1536, .fp8e4m3⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x512x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x512x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Norm.lean ====
abbrev S3x512x1536 : Shape := ⟨3, ![3, 512, 1536]⟩
abbrev S1536 : Shape := ⟨1, ![1536]⟩
abbrev S1x1536 : Shape := ⟨2, ![1, 1536]⟩
abbrev S3x512x128 : Shape := ⟨3, ![3, 512, 128]⟩
abbrev S1x512x1536 : Shape := ⟨3, ![1, 512, 1536]⟩
abbrev S1x512x128 : Shape := ⟨3, ![1, 512, 128]⟩
abbrev S1x32x1536 : Shape := ⟨3, ![1, 32, 1536]⟩
abbrev S32x1536 : Shape := ⟨2, ![32, 1536]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩

abbrev nBuf : Space → Nat
  | .hbm => 7
  | .vmem => 8
  | .smem => 0
  | _ => 0

abbrev bufTy : (tb : Table) → Fin (tcTables nBuf tb) → BufTy
  | .hbm, ⟨0, _⟩ => ⟨S3x512x1536, .bf16⟩
  | .hbm, ⟨1, _⟩ => ⟨S1536, .f32⟩
  | .hbm, ⟨2, _⟩ => ⟨S1536, .f32⟩
  | .hbm, ⟨3, _⟩ => ⟨S1x1536, .f32⟩
  | .hbm, ⟨4, _⟩ => ⟨S1x1536, .f32⟩
  | .hbm, ⟨5, _⟩ => ⟨S3x512x1536, .fp8e4m3⟩
  | .hbm, ⟨6, _⟩ => ⟨S3x512x128, .f32⟩
  | .local _ .vmem, ⟨0, _⟩ => ⟨S1x512x1536, .bf16⟩
  | .local _ .vmem, ⟨1, _⟩ => ⟨S1x512x1536, .bf16⟩
  | .local _ .vmem, ⟨2, _⟩ => ⟨S1x1536, .f32⟩
  | .local _ .vmem, ⟨3, _⟩ => ⟨S1x1536, .f32⟩
  | .local _ .vmem, ⟨4, _⟩ => ⟨S1x512x1536, .fp8e4m3⟩
  | .local _ .vmem, ⟨5, _⟩ => ⟨S1x512x1536, .fp8e4m3⟩
  | .local _ .vmem, ⟨6, _⟩ => ⟨S1x512x128, .f32⟩
  | .local _ .vmem, ⟨7, _⟩ => ⟨S1x512x128, .f32⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  v1
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3 : Index := Scalar.indexCast v2
  let c0_1 : Index := 0#32
  ![0, v3.toNat, 0]
def k0_off2 (k0_t1 : Fin k0_t1_loop.trips) : Fin 3 → Nat :=
  let c0_34 : Index := 0#32
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v131 : Index := Scalar.indexCast v2
  let c0_35 : Index := 0#32
  ![0, v131.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S3x512x1536 : Shape := ⟨3, ![3, 512, 1536]⟩
abbrev S1536 : Shape := ⟨1, ![1536]⟩
abbrev S1x1x1536 : Shape := ⟨3, ![1, 1, 1536]⟩
abbrev S3x512x128 : Shape := ⟨3, ![3, 512, 128]⟩
abbrev S3x512 : Shape := ⟨2, ![3, 512]⟩
abbrev S3x512x1 : Shape := ⟨3, ![3, 512, 1]⟩
abbrev S1x1x246 : Shape := ⟨3, ![1, 1, 246]⟩
abbrev S3x512x246 : Shape := ⟨3, ![3, 512, 246]⟩

abbrev nBuf : Space → Nat
  | .hbm => 7
  | .vmem => 5
  | .smem => 0
  | _ => 0

abbrev bufTy : (tb : Table) → Fin (tcTables nBuf tb) → BufTy
  | .hbm, ⟨0, _⟩ => ⟨S3x512x1536, .bf16⟩
  | .hbm, ⟨1, _⟩ => ⟨S1536, .f32⟩
  | .hbm, ⟨2, _⟩ => ⟨S1536, .f32⟩
  | .hbm, ⟨3, _⟩ => ⟨S1x1x1536, .f32⟩
  | .hbm, ⟨4, _⟩ => ⟨S1x1x1536, .f32⟩
  | .hbm, ⟨5, _⟩ => ⟨S3x512x1536, .fp8e4m3⟩
  | .hbm, ⟨6, _⟩ => ⟨S3x512x128, .f32⟩
  | .local _ .vmem, ⟨0, _⟩ => ⟨S3x512x1536, .bf16⟩
  | .local _ .vmem, ⟨1, _⟩ => ⟨S1x1x1536, .f32⟩
  | .local _ .vmem, ⟨2, _⟩ => ⟨S1x1x1536, .f32⟩
  | .local _ .vmem, ⟨3, _⟩ => ⟨S3x512x1536, .fp8e4m3⟩
  | .local _ .vmem, ⟨4, _⟩ => ⟨S3x512x128, .f32⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x512x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Head.lean ====
abbrev S3x512x1536 : Shape := ⟨3, ![3, 512, 1536]⟩
abbrev S3x512x1 : Shape := ⟨3, ![3, 512, 1]⟩
abbrev S1536x3072 : Shape := ⟨2, ![1536, 3072]⟩
abbrev S3072 : Shape := ⟨1, ![3072]⟩
abbrev S3x512x128 : Shape := ⟨3, ![3, 512, 128]⟩
abbrev S1x3072 : Shape := ⟨2, ![1, 3072]⟩
abbrev S3x512x3072 : Shape := ⟨3, ![3, 512, 3072]⟩
abbrev S1x512x1536 : Shape := ⟨3, ![1, 512, 1536]⟩
abbrev S1x512x128 : Shape := ⟨3, ![1, 512, 128]⟩
abbrev S1x512x3072 : Shape := ⟨3, ![1, 512, 3072]⟩
abbrev S12x800x128 : Shape := ⟨3, ![12, 800, 128]⟩
abbrev S512x1536 : Shape := ⟨2, ![512, 1536]⟩
abbrev S1536x256 : Shape := ⟨2, ![1536, 256]⟩
abbrev S512x256 : Shape := ⟨2, ![512, 256]⟩
abbrev S1x128 : Shape := ⟨2, ![1, 128]⟩
abbrev S1x8x128 : Shape := ⟨3, ![1, 8, 128]⟩
abbrev S8x128 : Shape := ⟨2, ![8, 128]⟩

abbrev nBuf : Space → Nat
  | .hbm => 9
  | .vmem => 12
  | .smem => 0
  | _ => 0

abbrev bufTy : (tb : Table) → Fin (tcTables nBuf tb) → BufTy
  | .hbm, ⟨0, _⟩ => ⟨S3x512x1536, .fp8e4m3⟩
  | .hbm, ⟨1, _⟩ => ⟨S3x512x1, .f32⟩
  | .hbm, ⟨2, _⟩ => ⟨S1536x3072, .fp8e4m3⟩
  | .hbm, ⟨3, _⟩ => ⟨S3072, .f32⟩
  | .hbm, ⟨4, _⟩ => ⟨S3072, .f32⟩
  | .hbm, ⟨5, _⟩ => ⟨S3x512x128, .f32⟩
  | .hbm, ⟨6, _⟩ => ⟨S1x3072, .f32⟩
  | .hbm, ⟨7, _⟩ => ⟨S1x3072, .f32⟩
  | .hbm, ⟨8, _⟩ => ⟨S3x512x3072, .f32⟩
  | .local _ .vmem, ⟨0, _⟩ => ⟨S1x512x1536, .fp8e4m3⟩
  | .local _ .vmem, ⟨1, _⟩ => ⟨S1x512x1536, .fp8e4m3⟩
  | .local _ .vmem, ⟨2, _⟩ => ⟨S1x512x128, .f32⟩
  | .local _ .vmem, ⟨3, _⟩ => ⟨S1x512x128, .f32⟩
  | .local _ .vmem, ⟨4, _⟩ => ⟨S1536x3072, .fp8e4m3⟩
  | .local _ .vmem, ⟨5, _⟩ => ⟨S1x3072, .f32⟩
  | .local _ .vmem, ⟨6, _⟩ => ⟨S1x3072, .f32⟩
  | .local _ .vmem, ⟨7, _⟩ => ⟨S1x512x3072, .f32⟩
  | .local _ .vmem, ⟨8, _⟩ => ⟨S1x512x3072, .f32⟩
  | .local _ .vmem, ⟨9, _⟩ => ⟨S12x800x128, .f32⟩
  | .local _ .vmem, ⟨10, _⟩ => ⟨S1x3072, .f32⟩
  | .local _ .vmem, ⟨11, _⟩ => ⟨S1x3072, .f32⟩
  | _, _ => ⟨S3x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32_1 : BitVec 32 := 0#32
  let c6_i32 : BitVec 32 := 6#32
  let v3 : BitVec 32 := Scalar.addi c0_i32_1 c6_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c256_i32 : BitVec 32 := 256#32
  let v4 : BitVec 32 := Scalar.muli arg10 c256_i32
  v4
def k0_off1 (k0_t1 : Fin k0_t1_loop.trips) : Fin 2 → Nat :=
  let c0_5 : Index := 0#32
  let c0_i32_1 : BitVec 32 := 0#32
  let c1_i32 : BitVec 32 := 1#32
  let arg10 : BitVec 32 := Scf.iv c0_i32_1 c1_i32 k0_t1
  let c256_i32 : BitVec 32 := 256#32
  let v4 : BitVec 32 := Scalar.muli arg10 c256_i32
  let v5 : BitVec 32 := v4
  let v8 : Index := Scalar.indexCast v5
  ![0, v8.toNat]
def k0_off2 (k0_t1 : Fin k0_t1_loop.trips) : Fin 2 → Nat :=
  let c0_6 : Index := 0#32
  let c1536_i32 : BitVec 32 := 1536#32
  let c0_i32_1 : BitVec 32 := 0#32
  let c1_i32 : BitVec 32 := 1#32
  let arg10 : BitVec 32 := Scf.iv c0_i32_1 c1_i32 k0_t1
  let c256_i32 : BitVec 32 := 256#32
  let v4 : BitVec 32 := Scalar.muli arg10 c256_i32
  let v5 : BitVec 32 := v4
  let v11 : BitVec 32 := Scalar.addi c1536_i32 v5
  let v12 : Index := Scalar.indexCast v11
  ![0, v12.toNat]
def k0_mult2 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let c0_i32_8 : BitVec 32 := 0#32
  let v16 : BitVec 32 := Scalar.addi v15 c0_i32_8
  let c128_i32 : BitVec 32 := 128#32
  let v17 : BitVec 32 := Scalar.muli v16 c128_i32
  v17
def k0_mult3 (k0_t1 : Fin k0_t1_loop.trips) : BitVec 32 :=
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let c0_i32_8 : BitVec 32 := 0#32
  let v16 : BitVec 32 := Scalar.addi v15 c0_i32_8
  let c128_i32_9 : BitVec 32 := 128#32
  let v19 : BitVec 32 := Scalar.muli v16 c128_i32_9
  let v20 : BitVec 32 := Scalar.addi c1536_i32_10 v19
  v20
def k0_off3 (k0_t1 : Fin k0_t1_loop.trips) (c0_i32_8 : BitVec 32) : Fin 2 → Nat :=
  let c0_11 : Index := 0#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v22 : Index := Scalar.indexCast v18
  ![0, v22.toNat]
def k0_off4 (k0_t1 : Fin k0_t1_loop.trips) (c0_i32_8 : BitVec 32) : Fin 2 → Nat :=
  let c0_13 : Index := 0#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v26 : Index := Scalar.indexCast v21
  ![0, v26.toNat]
def k0_off5 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v47 : Index := Scalar.indexCast v16
  let c16 : Index := 16#32
  let c0_18 : Index := 0#32
  ![v47.toNat, 16, 0]
def k0_off6 (k0_t1 : Fin k0_t1_loop.trips) (c0_i32_8 : BitVec 32) : Fin 3 → Nat :=
  let c0_19 : Index := 0#32
  let c0_20 : Index := 0#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v51 : Index := Scalar.indexCast v18
  ![0, 0, v51.toNat]
def k0_off7 (k0_t1 : Fin k0_t1_loop.trips) (c0_i32_8 : BitVec 32) : Fin 3 → Nat :=
  let c0_21 : Index := 0#32
  let c0_22 : Index := 0#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v55 : Index := Scalar.indexCast v21
  ![0, 0, v55.toNat]
def k0_off8 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v76 : Index := Scalar.indexCast v16
  let c24 : Index := 24#32
  let c0_25 : Index := 0#32
  ![v76.toNat, 24, 0]
def k0_off9 (k0_t1 : Fin k0_t1_loop.trips) (c0_i32_8 : BitVec 32) : Fin 3 → Nat :=
  let c0_26 : Index := 0#32
  let c8_27 : Index := 8#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v80 : Index := Scalar.indexCast v18
  ![0, 8, v80.toNat]
def k0_off10 (k0_t1 : Fin k0_t1_loop.trips) (c0_i32_8 : BitVec 32) : Fin 3 → Nat :=
  let c0_28 : Index := 0#32
  let c8_29 : Index := 8#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v84 : Index := Scalar.indexCast v21
  ![0, 8, v84.toNat]
def k0_off11 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v105 : Index := Scalar.indexCast v16
  let c32 : Index := 32#32
  let c0_33 : Index := 0#32
  ![v105.toNat, 32, 0]
def k0_off12 (k0_t1 : Fin k0_t1_loop.trips) (c0_i32_8 : BitVec 32) : Fin 3 → Nat :=
  let c0_34 : Index := 0#32
  let c16_35 : Index := 16#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v109 : Index := Scalar.indexCast v18
  ![0, 16, v109.toNat]
def k0_off13 (k0_t1 : Fin k0_t1_loop.trips) (c0_i32_8 : BitVec 32) : Fin 3 → Nat :=
  let c0_36 : Index := 0#32
  let c16_37 : Index := 16#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v113 : Index := Scalar.indexCast v21
  ![0, 16, v113.toNat]
def k0_off14 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v134 : Index := Scalar.indexCast v16
  let c40 : Index := 40#32
  let c0_41 : Index := 0#32
  ![v134.toNat, 40, 0]
def k0_off15 (k0_t1 : Fin k0_t1_loop.trips) (c0_i32_8 : BitVec 32) : Fin 3 → Nat :=
  let c0_42 : Index := 0#32
  let c24_43 : Index := 24#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v138 : Index := Scalar.indexCast v18
  ![0, 24, v138.toNat]
def k0_off16 (k0_t1 : Fin k0_t1_loop.trips) (c0_i32_8 : BitVec 32) : Fin 3 → Nat :=
  let c0_44 : Index := 0#32
  let c24_45 : Index := 24#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v142 : Index := Scalar.indexCast v21
  ![0, 24, v142.toNat]
def k0_off17 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v163 : Index := Scalar.indexCast v16
  let c48 : Index := 48#32
  let c0_49 : Index := 0#32
  ![v163.toNat, 48, 0]
def k0_off18 (k0_t1 : Fin k0_t1_loop.trips) (c0_i32_8 : BitVec 32) : Fin 3 → Nat :=
  let c0_50 : Index := 0#32
  let c32_51 : Index := 32#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v167 : Index := Scalar.indexCast v18
  ![0, 32, v167.toNat]
def k0_off19 (k0_t1 : Fin k0_t1_loop.trips) (c0_i32_8 : BitVec 32) : Fin 3 → Nat :=
  let c0_52 : Index := 0#32
  let c32_53 : Index := 32#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v171 : Index := Scalar.indexCast v21
  ![0, 32, v171.toNat]
def k0_off20 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v192 : Index := Scalar.indexCast v16
  let c56 : Index := 56#32
  let c0_57 : Index := 0#32
  ![v192.toNat, 56, 0]
def k0_off21 (k0_t1 : Fin k0_t1_loop.trips) (c0_i32_8 : BitVec 32) : Fin 3 → Nat :=
  let c0_58 : Index := 0#32
  let c40_59 : Index := 40#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v196 : Index := Scalar.indexCast v18
  ![0, 40, v196.toNat]
def k0_off22 (k0_t1 : Fin k0_t1_loop.trips) (c0_i32_8 : BitVec 32) : Fin 3 → Nat :=
  let c0_60 : Index := 0#32
  let c40_61 : Index := 40#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v200 : Index := Scalar.indexCast v21
  ![0, 40, v200.toNat]
def k0_off23 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v221 : Index := Scalar.indexCast v16
  let c64 : Index := 64#32
  let c0_65 : Index := 0#32
  ![v221.toNat, 64, 0]
def k0_off24 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v225 : Index := Scalar.indexCast v16
  let c100 : Index := 100#32
  let c0_66 : Index := 0#32
  ![v225.toNat, 100, 0]
def k0_off25 (k0_t1 : Fin k0_t1_loop.trips) (c0_i32_8 : BitVec 32) : Fin 3 → Nat :=
  let c0_67 : Index := 0#32
  let c48_68 : Index := 48#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v229 : Index := Scalar.indexCast v18
  ![0, 48, v229.toNat]
def k0_off26 (k0_t1 : Fin k0_t1_loop.trips) (c0_i32_8 : BitVec 32) : Fin 3 → Nat :=
  let c0_69 : Index := 0#32
  let c48_70 : Index := 48#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v233 : Index := Scalar.indexCast v21
  ![0, 48, v233.toNat]
def k0_off27 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v254 : Index := Scalar.indexCast v16
  let c72 : Index := 72#32
  let c0_74 : Index := 0#32
  ![v254.toNat, 72, 0]
def k0_off28 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v258 : Index := Scalar.indexCast v16
  let c108 : Index := 108#32
  let c0_75 : Index := 0#32
  ![v258.toNat, 108, 0]
def k0_off29 (k0_t1 : Fin k0_t1_loop.trips) (c0_i32_8 : BitVec 32) : Fin 3 → Nat :=
  let c0_76 : Index := 0#32
  let c56_77 : Index := 56#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v262 : Index := Scalar.indexCast v18
  ![0, 56, v262.toNat]
def k0_off30 (k0_t1 : Fin k0_t1_loop.trips) (c0_i32_8 : BitVec 32) : Fin 3 → Nat :=
  let c0_78 : Index := 0#32
  let c56_79 : Index := 56#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v266 : Index := Scalar.indexCast v21
  ![0, 56, v266.toNat]
def k0_off31 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v287 : Index := Scalar.indexCast v16
  let c116 : Index := 116#32
  let c0_83 : Index := 0#32
  ![v287.toNat, 116, 0]
def k0_off32 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v291 : Index := Scalar.indexCast v16
  let c80 : Index := 80#32
  let c0_84 : Index := 0#32
  ![v291.toNat, 80, 0]
def k0_off33 (k0_t1 : Fin k0_t1_loop.trips) (c0_i32_8 : BitVec 32) : Fin 3 → Nat :=
  let c0_85 : Index := 0#32
  let c64_86 : Index := 64#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v295 : Index := Scalar.indexCast v18
  ![0, 64, v295.toNat]
def k0_off34 (k0_t1 : Fin k0_t1_loop.trips) (c0_i32_8 : BitVec 32) : Fin 3 → Nat :=
  let c0_87 : Index := 0#32
  let c64_88 : Index := 64#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v299 : Index := Scalar.indexCast v21
  ![0, 64, v299.toNat]
def k0_off35 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v320 : Index := Scalar.indexCast v16
  let c124 : Index := 124#32
  let c0_92 : Index := 0#32
  ![v320.toNat, 124, 0]
def k0_off36 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v324 : Index := Scalar.indexCast v16
  let c88 : Index := 88#32
  let c0_93 : Index := 0#32
  ![v324.toNat, 88, 0]
def k0_off37 (k0_t1 : Fin k0_t1_loop.trips) (c0_i32_8 : BitVec 32) : Fin 3 → Nat :=
  let c0_94 : Index := 0#32
  let c72_95 : Index := 72#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v328 : Index := Scalar.indexCast v18
  ![0, 72, v328.toNat]
def k0_off38 (k0_t1 : Fin k0_t1_loop.trips) (c0_i32_8 : BitVec 32) : Fin 3 → Nat :=
  let c0_96 : Index := 0#32
  let c72_97 : Index := 72#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v332 : Index := Scalar.indexCast v21
  ![0, 72, v332.toNat]
def k0_off39 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v353 : Index := Scalar.indexCast v16
  let c132 : Index := 132#32
  let c0_101 : Index := 0#32
  ![v353.toNat, 132, 0]
def k0_off40 (k0_t1 : Fin k0_t1_loop.trips) (c0_i32_8 : BitVec 32) : Fin 3 → Nat :=
  let c0_102 : Index := 0#32
  let c80_103 : Index := 80#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v357 : Index := Scalar.indexCast v18
  ![0, 80, v357.toNat]
def k0_off41 (k0_t1 : Fin k0_t1_loop.trips) (c0_i32_8 : BitVec 32) : Fin 3 → Nat :=
  let c0_104 : Index := 0#32
  let c80_105 : Index := 80#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v361 : Index := Scalar.indexCast v21
  ![0, 80, v361.toNat]
def k0_off42 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v382 : Index := Scalar.indexCast v16
  let c140 : Index := 140#32
  let c0_109 : Index := 0#32
  ![v382.toNat, 140, 0]
def k0_off43 (k0_t1 : Fin k0_t1_loop.trips) (c0_i32_8 : BitVec 32) : Fin 3 → Nat :=
  let c0_110 : Index := 0#32
  let c88_111 : Index := 88#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v386 : Index := Scalar.indexCast v18
  ![0, 88, v386.toNat]
def k0_off44 (k0_t1 : Fin k0_t1_loop.trips) (c0_i32_8 : BitVec 32) : Fin 3 → Nat :=
  let c0_112 : Index := 0#32
  let c88_113 : Index := 88#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v390 : Index := Scalar.indexCast v21
  ![0, 88, v390.toNat]
def k0_off45 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v411 : Index := Scalar.indexCast v16
  let c148 : Index := 148#32
  let c0_116 : Index := 0#32
  ![v411.toNat, 148, 0]
def k0_off46 (k0_t1 : Fin k0_t1_loop.trips) (c0_i32_8 : BitVec 32) : Fin 3 → Nat :=
  let c0_117 : Index := 0#32
  let c96_118 : Index := 96#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v415 : Index := Scalar.indexCast v18
  ![0, 96, v415.toNat]
def k0_off47 (k0_t1 : Fin k0_t1_loop.trips) (c0_i32_8 : BitVec 32) : Fin 3 → Nat :=
  let c0_119 : Index := 0#32
  let c96_120 : Index := 96#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v419 : Index := Scalar.indexCast v21
  ![0, 96, v419.toNat]
def k0_off48 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v440 : Index := Scalar.indexCast v16
  let c156 : Index := 156#32
  let c0_123 : Index := 0#32
  ![v440.toNat, 156, 0]
def k0_off49 (k0_t1 : Fin k0_t1_loop.trips) (c0_i32_8 : BitVec 32) : Fin 3 → Nat :=
  let c0_124 : Index := 0#32
  let c104_125 : Index := 104#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v444 : Index := Scalar.indexCast v18
  ![0, 104, v444.toNat]
def k0_off50 (k0_t1 : Fin k0_t1_loop.trips) (c0_i32_8 : BitVec 32) : Fin 3 → Nat :=
  let c0_126 : Index := 0#32
  let c104_127 : Index := 104#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v448 : Index := Scalar.indexCast v21
  ![0, 104, v448.toNat]
def k0_off51 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v469 : Index := Scalar.indexCast v16
  let c164 : Index := 164#32
  let c0_130 : Index := 0#32
  ![v469.toNat, 164, 0]
def k0_off52 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v473 : Index := Scalar.indexCast v16
  let c200 : Index := 200#32
  let c0_131 : Index := 0#32
  ![v473.toNat, 200, 0]
def k0_off53 (k0_t1 : Fin k0_t1_loop.trips) (c0_i32_8 : BitVec 32) : Fin 3 → Nat :=
  let c0_132 : Index := 0#32
  let c112_133 : Index := 112#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v477 : Index := Scalar.indexCast v18
  ![0, 112, v477.toNat]
def k0_off54 (k0_t1 : Fin k0_t1_loop.trips) (c0_i32_8 : BitVec 32) : Fin 3 → Nat :=
  let c0_134 : Index := 0#32
  let c112_135 : Index := 112#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v481 : Index := Scalar.indexCast v21
  ![0, 112, v481.toNat]
def k0_off55 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v502 : Index := Scalar.indexCast v16
  let c172 : Index := 172#32
  let c0_138 : Index := 0#32
  ![v502.toNat, 172, 0]
def k0_off56 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v506 : Index := Scalar.indexCast v16
  let c208 : Index := 208#32
  let c0_139 : Index := 0#32
  ![v506.toNat, 208, 0]
def k0_off57 (k0_t1 : Fin k0_t1_loop.trips) (c0_i32_8 : BitVec 32) : Fin 3 → Nat :=
  let c0_140 : Index := 0#32
  let c120_141 : Index := 120#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v510 : Index := Scalar.indexCast v18
  ![0, 120, v510.toNat]
def k0_off58 (k0_t1 : Fin k0_t1_loop.trips) (c0_i32_8 : BitVec 32) : Fin 3 → Nat :=
  let c0_142 : Index := 0#32
  let c120_143 : Index := 120#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v514 : Index := Scalar.indexCast v21
  ![0, 120, v514.toNat]
def k0_off59 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v535 : Index := Scalar.indexCast v16
  let c216 : Index := 216#32
  let c0_146 : Index := 0#32
  ![v535.toNat, 216, 0]
def k0_off60 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v539 : Index := Scalar.indexCast v16
  let c180 : Index := 180#32
  let c0_147 : Index := 0#32
  ![v539.toNat, 180, 0]
def k0_off61 (k0_t1 : Fin k0_t1_loop.trips) (c0_i32_8 : BitVec 32) : Fin 3 → Nat :=
  let c0_148 : Index := 0#32
  let c128_149 : Index := 128#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v543 : Index := Scalar.indexCast v18
  ![0, 128, v543.toNat]
def k0_off62 (k0_t1 : Fin k0_t1_loop.trips) (c0_i32_8 : BitVec 32) : Fin 3 → Nat :=
  let c0_150 : Index := 0#32
  let c128_151 : Index := 128#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v547 : Index := Scalar.indexCast v21
  ![0, 128, v547.toNat]
def k0_off63 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v568 : Index := Scalar.indexCast v16
  let c224 : Index := 224#32
  let c0_154 : Index := 0#32
  ![v568.toNat, 224, 0]
def k0_off64 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v572 : Index := Scalar.indexCast v16
  let c188 : Index := 188#32
  let c0_155 : Index := 0#32
  ![v572.toNat, 188, 0]
def k0_off65 (k0_t1 : Fin k0_t1_loop.trips) (c0_i32_8 : BitVec 32) : Fin 3 → Nat :=
  let c0_156 : Index := 0#32
  let c136_157 : Index := 136#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v576 : Index := Scalar.indexCast v18
  ![0, 136, v576.toNat]
def k0_off66 (k0_t1 : Fin k0_t1_loop.trips) (c0_i32_8 : BitVec 32) : Fin 3 → Nat :=
  let c0_158 : Index := 0#32
  let c136_159 : Index := 136#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v580 : Index := Scalar.indexCast v21
  ![0, 136, v580.toNat]
def k0_off67 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v601 : Index := Scalar.indexCast v16
  let c232 : Index := 232#32
  let c0_162 : Index := 0#32
  ![v601.toNat, 232, 0]
def k0_off68 (k0_t1 : Fin k0_t1_loop.trips) (c0_i32_8 : BitVec 32) : Fin 3 → Nat :=
  let c0_163 : Index := 0#32
  let c144_164 : Index := 144#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v605 : Index := Scalar.indexCast v18
  ![0, 144, v605.toNat]
def k0_off69 (k0_t1 : Fin k0_t1_loop.trips) (c0_i32_8 : BitVec 32) : Fin 3 → Nat :=
  let c0_165 : Index := 0#32
  let c144_166 : Index := 144#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v609 : Index := Scalar.indexCast v21
  ![0, 144, v609.toNat]
def k0_off70 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v630 : Index := Scalar.indexCast v16
  let c240 : Index := 240#32
  let c0_169 : Index := 0#32
  ![v630.toNat, 240, 0]
def k0_off71 (k0_t1 : Fin k0_t1_loop.trips) (c0_i32_8 : BitVec 32) : Fin 3 → Nat :=
  let c0_170 : Index := 0#32
  let c152_171 : Index := 152#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v634 : Index := Scalar.indexCast v18
  ![0, 152, v634.toNat]
def k0_off72 (k0_t1 : Fin k0_t1_loop.trips) (c0_i32_8 : BitVec 32) : Fin 3 → Nat :=
  let c0_172 : Index := 0#32
  let c152_173 : Index := 152#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v638 : Index := Scalar.indexCast v21
  ![0, 152, v638.toNat]
def k0_off73 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v659 : Index := Scalar.indexCast v16
  let c248 : Index := 248#32
  let c0_176 : Index := 0#32
  ![v659.toNat, 248, 0]
def k0_off74 (k0_t1 : Fin k0_t1_loop.trips) (c0_i32_8 : BitVec 32) : Fin 3 → Nat :=
  let c0_177 : Index := 0#32
  let c160_178 : Index := 160#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v663 : Index := Scalar.indexCast v18
  ![0, 160, v663.toNat]
def k0_off75 (k0_t1 : Fin k0_t1_loop.trips) (c0_i32_8 : BitVec 32) : Fin 3 → Nat :=
  let c0_179 : Index := 0#32
  let c160_180 : Index := 160#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v667 : Index := Scalar.indexCast v21
  ![0, 160, v667.toNat]
def k0_off76 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v688 : Index := Scalar.indexCast v16
  let c256 : Index := 256#32
  let c0_183 : Index := 0#32
  ![v688.toNat, 256, 0]
def k0_off77 (k0_t1 : Fin k0_t1_loop.trips) (c0_i32_8 : BitVec 32) : Fin 3 → Nat :=
  let c0_184 : Index := 0#32
  let c168_185 : Index := 168#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v692 : Index := Scalar.indexCast v18
  ![0, 168, v692.toNat]
def k0_off78 (k0_t1 : Fin k0_t1_loop.trips) (c0_i32_8 : BitVec 32) : Fin 3 → Nat :=
  let c0_186 : Index := 0#32
  let c168_187 : Index := 168#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v696 : Index := Scalar.indexCast v21
  ![0, 168, v696.toNat]
def k0_off79 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v717 : Index := Scalar.indexCast v16
  let c264 : Index := 264#32
  let c0_190 : Index := 0#32
  ![v717.toNat, 264, 0]
def k0_off80 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v721 : Index := Scalar.indexCast v16
  let c300 : Index := 300#32
  let c0_191 : Index := 0#32
  ![v721.toNat, 300, 0]
def k0_off81 (k0_t1 : Fin k0_t1_loop.trips) (c0_i32_8 : BitVec 32) : Fin 3 → Nat :=
  let c0_192 : Index := 0#32
  let c176_193 : Index := 176#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v725 : Index := Scalar.indexCast v18
  ![0, 176, v725.toNat]
def k0_off82 (k0_t1 : Fin k0_t1_loop.trips) (c0_i32_8 : BitVec 32) : Fin 3 → Nat :=
  let c0_194 : Index := 0#32
  let c176_195 : Index := 176#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v729 : Index := Scalar.indexCast v21
  ![0, 176, v729.toNat]
def k0_off83 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v750 : Index := Scalar.indexCast v16
  let c272 : Index := 272#32
  let c0_198 : Index := 0#32
  ![v750.toNat, 272, 0]
def k0_off84 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v754 : Index := Scalar.indexCast v16
  let c308 : Index := 308#32
  let c0_199 : Index := 0#32
  ![v754.toNat, 308, 0]
def k0_off85 (k0_t1 : Fin k0_t1_loop.trips) (c0_i32_8 : BitVec 32) : Fin 3 → Nat :=
  let c0_200 : Index := 0#32
  let c184_201 : Index := 184#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v758 : Index := Scalar.indexCast v18
  ![0, 184, v758.toNat]
def k0_off86 (k0_t1 : Fin k0_t1_loop.trips) (c0_i32_8 : BitVec 32) : Fin 3 → Nat :=
  let c0_202 : Index := 0#32
  let c184_203 : Index := 184#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v762 : Index := Scalar.indexCast v21
  ![0, 184, v762.toNat]
def k0_off87 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v783 : Index := Scalar.indexCast v16
  let c316 : Index := 316#32
  let c0_206 : Index := 0#32
  ![v783.toNat, 316, 0]
def k0_off88 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v787 : Index := Scalar.indexCast v16
  let c280 : Index := 280#32
  let c0_207 : Index := 0#32
  ![v787.toNat, 280, 0]
def k0_off89 (k0_t1 : Fin k0_t1_loop.trips) (c0_i32_8 : BitVec 32) : Fin 3 → Nat :=
  let c0_208 : Index := 0#32
  let c192_209 : Index := 192#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v791 : Index := Scalar.indexCast v18
  ![0, 192, v791.toNat]
def k0_off90 (k0_t1 : Fin k0_t1_loop.trips) (c0_i32_8 : BitVec 32) : Fin 3 → Nat :=
  let c0_210 : Index := 0#32
  let c192_211 : Index := 192#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v795 : Index := Scalar.indexCast v21
  ![0, 192, v795.toNat]
def k0_off91 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v816 : Index := Scalar.indexCast v16
  let c324 : Index := 324#32
  let c0_215 : Index := 0#32
  ![v816.toNat, 324, 0]
def k0_off92 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v820 : Index := Scalar.indexCast v16
  let c288 : Index := 288#32
  let c0_216 : Index := 0#32
  ![v820.toNat, 288, 0]
def k0_off93 (k0_t1 : Fin k0_t1_loop.trips) (c0_i32_8 : BitVec 32) : Fin 3 → Nat :=
  let c0_217 : Index := 0#32
  let c200_218 : Index := 200#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v824 : Index := Scalar.indexCast v18
  ![0, 200, v824.toNat]
def k0_off94 (k0_t1 : Fin k0_t1_loop.trips) (c0_i32_8 : BitVec 32) : Fin 3 → Nat :=
  let c0_219 : Index := 0#32
  let c200_220 : Index := 200#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v828 : Index := Scalar.indexCast v21
  ![0, 200, v828.toNat]
def k0_off95 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v849 : Index := Scalar.indexCast v16
  let c332 : Index := 332#32
  let c0_224 : Index := 0#32
  ![v849.toNat, 332, 0]
def k0_off96 (k0_t1 : Fin k0_t1_loop.trips) (c0_i32_8 : BitVec 32) : Fin 3 → Nat :=
  let c0_225 : Index := 0#32
  let c208_226 : Index := 208#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v853 : Index := Scalar.indexCast v18
  ![0, 208, v853.toNat]
def k0_off97 (k0_t1 : Fin k0_t1_loop.trips) (c0_i32_8 : BitVec 32) : Fin 3 → Nat :=
  let c0_227 : Index := 0#32
  let c208_228 : Index := 208#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v857 : Index := Scalar.indexCast v21
  ![0, 208, v857.toNat]
def k0_off98 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v878 : Index := Scalar.indexCast v16
  let c340 : Index := 340#32
  let c0_232 : Index := 0#32
  ![v878.toNat, 340, 0]
def k0_off99 (k0_t1 : Fin k0_t1_loop.trips) (c0_i32_8 : BitVec 32) : Fin 3 → Nat :=
  let c0_233 : Index := 0#32
  let c216_234 : Index := 216#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v882 : Index := Scalar.indexCast v18
  ![0, 216, v882.toNat]
def k0_off100 (k0_t1 : Fin k0_t1_loop.trips) (c0_i32_8 : BitVec 32) : Fin 3 → Nat :=
  let c0_235 : Index := 0#32
  let c216_236 : Index := 216#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v886 : Index := Scalar.indexCast v21
  ![0, 216, v886.toNat]
def k0_off101 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v907 : Index := Scalar.indexCast v16
  let c348 : Index := 348#32
  let c0_240 : Index := 0#32
  ![v907.toNat, 348, 0]
def k0_off102 (k0_t1 : Fin k0_t1_loop.trips) (c0_i32_8 : BitVec 32) : Fin 3 → Nat :=
  let c0_241 : Index := 0#32
  let c224_242 : Index := 224#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v911 : Index := Scalar.indexCast v18
  ![0, 224, v911.toNat]
def k0_off103 (k0_t1 : Fin k0_t1_loop.trips) (c0_i32_8 : BitVec 32) : Fin 3 → Nat :=
  let c0_243 : Index := 0#32
  let c224_244 : Index := 224#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v915 : Index := Scalar.indexCast v21
  ![0, 224, v915.toNat]
def k0_off104 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v936 : Index := Scalar.indexCast v16
  let c356 : Index := 356#32
  let c0_248 : Index := 0#32
  ![v936.toNat, 356, 0]
def k0_off105 (k0_t1 : Fin k0_t1_loop.trips) (c0_i32_8 : BitVec 32) : Fin 3 → Nat :=
  let c0_249 : Index := 0#32
  let c232_250 : Index := 232#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v940 : Index := Scalar.indexCast v18
  ![0, 232, v940.toNat]
def k0_off106 (k0_t1 : Fin k0_t1_loop.trips) (c0_i32_8 : BitVec 32) : Fin 3 → Nat :=
  let c0_251 : Index := 0#32
  let c232_252 : Index := 232#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v944 : Index := Scalar.indexCast v21
  ![0, 232, v944.toNat]
def k0_off107 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v965 : Index := Scalar.indexCast v16
  let c364 : Index := 364#32
  let c0_256 : Index := 0#32
  ![v965.toNat, 364, 0]
def k0_off108 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v969 : Index := Scalar.indexCast v16
  let c400 : Index := 400#32
  let c0_257 : Index := 0#32
  ![v969.toNat, 400, 0]
def k0_off109 (k0_t1 : Fin k0_t1_loop.trips) (c0_i32_8 : BitVec 32) : Fin 3 → Nat :=
  let c0_258 : Index := 0#32
  let c240_259 : Index := 240#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v973 : Index := Scalar.indexCast v18
  ![0, 240, v973.toNat]
def k0_off110 (k0_t1 : Fin k0_t1_loop.trips) (c0_i32_8 : BitVec 32) : Fin 3 → Nat :=
  let c0_260 : Index := 0#32
  let c240_261 : Index := 240#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v977 : Index := Scalar.indexCast v21
  ![0, 240, v977.toNat]
def k0_off111 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v998 : Index := Scalar.indexCast v16
  let c372 : Index := 372#32
  let c0_265 : Index := 0#32
  ![v998.toNat, 372, 0]
def k0_off112 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1002 : Index := Scalar.indexCast v16
  let c408 : Index := 408#32
  let c0_266 : Index := 0#32
  ![v1002.toNat, 408, 0]
def k0_off113 (k0_t1 : Fin k0_t1_loop.trips) (c0_i32_8 : BitVec 32) : Fin 3 → Nat :=
  let c0_267 : Index := 0#32
  let c248_268 : Index := 248#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1006 : Index := Scalar.indexCast v18
  ![0, 248, v1006.toNat]
def k0_off114 (k0_t1 : Fin k0_t1_loop.trips) (c0_i32_8 : BitVec 32) : Fin 3 → Nat :=
  let c0_269 : Index := 0#32
  let c248_270 : Index := 248#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1010 : Index := Scalar.indexCast v21
  ![0, 248, v1010.toNat]
def k0_off115 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1031 : Index := Scalar.indexCast v16
  let c416 : Index := 416#32
  let c0_274 : Index := 0#32
  ![v1031.toNat, 416, 0]
def k0_off116 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1035 : Index := Scalar.indexCast v16
  let c380 : Index := 380#32
  let c0_275 : Index := 0#32
  ![v1035.toNat, 380, 0]
def k0_off117 (k0_t1 : Fin k0_t1_loop.trips) (c0_i32_8 : BitVec 32) : Fin 3 → Nat :=
  let c0_276 : Index := 0#32
  let c256_277 : Index := 256#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1039 : Index := Scalar.indexCast v18
  ![0, 256, v1039.toNat]
def k0_off118 (k0_t1 : Fin k0_t1_loop.trips) (c0_i32_8 : BitVec 32) : Fin 3 → Nat :=
  let c0_278 : Index := 0#32
  let c256_279 : Index := 256#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1043 : Index := Scalar.indexCast v21
  ![0, 256, v1043.toNat]
def k0_off119 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1064 : Index := Scalar.indexCast v16
  let c424 : Index := 424#32
  let c0_283 : Index := 0#32
  ![v1064.toNat, 424, 0]
def k0_off120 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1068 : Index := Scalar.indexCast v16
  let c388 : Index := 388#32
  let c0_284 : Index := 0#32
  ![v1068.toNat, 388, 0]
def k0_off121 (k0_t1 : Fin k0_t1_loop.trips) (c0_i32_8 : BitVec 32) : Fin 3 → Nat :=
  let c0_285 : Index := 0#32
  let c264_286 : Index := 264#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1072 : Index := Scalar.indexCast v18
  ![0, 264, v1072.toNat]
def k0_off122 (k0_t1 : Fin k0_t1_loop.trips) (c0_i32_8 : BitVec 32) : Fin 3 → Nat :=
  let c0_287 : Index := 0#32
  let c264_288 : Index := 264#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1076 : Index := Scalar.indexCast v21
  ![0, 264, v1076.toNat]
def k0_off123 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1097 : Index := Scalar.indexCast v16
  let c432 : Index := 432#32
  let c0_292 : Index := 0#32
  ![v1097.toNat, 432, 0]
def k0_off124 (k0_t1 : Fin k0_t1_loop.trips) (c0_i32_8 : BitVec 32) : Fin 3 → Nat :=
  let c0_293 : Index := 0#32
  let c272_294 : Index := 272#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1101 : Index := Scalar.indexCast v18
  ![0, 272, v1101.toNat]
def k0_off125 (k0_t1 : Fin k0_t1_loop.trips) (c0_i32_8 : BitVec 32) : Fin 3 → Nat :=
  let c0_295 : Index := 0#32
  let c272_296 : Index := 272#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1105 : Index := Scalar.indexCast v21
  ![0, 272, v1105.toNat]
def k0_off126 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1126 : Index := Scalar.indexCast v16
  let c440 : Index := 440#32
  let c0_300 : Index := 0#32
  ![v1126.toNat, 440, 0]
def k0_off127 (k0_t1 : Fin k0_t1_loop.trips) (c0_i32_8 : BitVec 32) : Fin 3 → Nat :=
  let c0_301 : Index := 0#32
  let c280_302 : Index := 280#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1130 : Index := Scalar.indexCast v18
  ![0, 280, v1130.toNat]
def k0_off128 (k0_t1 : Fin k0_t1_loop.trips) (c0_i32_8 : BitVec 32) : Fin 3 → Nat :=
  let c0_303 : Index := 0#32
  let c280_304 : Index := 280#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1134 : Index := Scalar.indexCast v21
  ![0, 280, v1134.toNat]
def k0_off129 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1155 : Index := Scalar.indexCast v16
  let c448 : Index := 448#32
  let c0_308 : Index := 0#32
  ![v1155.toNat, 448, 0]
def k0_off130 (k0_t1 : Fin k0_t1_loop.trips) (c0_i32_8 : BitVec 32) : Fin 3 → Nat :=
  let c0_309 : Index := 0#32
  let c288_310 : Index := 288#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1159 : Index := Scalar.indexCast v18
  ![0, 288, v1159.toNat]
def k0_off131 (k0_t1 : Fin k0_t1_loop.trips) (c0_i32_8 : BitVec 32) : Fin 3 → Nat :=
  let c0_311 : Index := 0#32
  let c288_312 : Index := 288#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1163 : Index := Scalar.indexCast v21
  ![0, 288, v1163.toNat]
def k0_off132 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1184 : Index := Scalar.indexCast v16
  let c456 : Index := 456#32
  let c0_315 : Index := 0#32
  ![v1184.toNat, 456, 0]
def k0_off133 (k0_t1 : Fin k0_t1_loop.trips) (c0_i32_8 : BitVec 32) : Fin 3 → Nat :=
  let c0_316 : Index := 0#32
  let c296_317 : Index := 296#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1188 : Index := Scalar.indexCast v18
  ![0, 296, v1188.toNat]
def k0_off134 (k0_t1 : Fin k0_t1_loop.trips) (c0_i32_8 : BitVec 32) : Fin 3 → Nat :=
  let c0_318 : Index := 0#32
  let c296_319 : Index := 296#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1192 : Index := Scalar.indexCast v21
  ![0, 296, v1192.toNat]
def k0_off135 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1213 : Index := Scalar.indexCast v16
  let c464 : Index := 464#32
  let c0_322 : Index := 0#32
  ![v1213.toNat, 464, 0]
def k0_off136 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1217 : Index := Scalar.indexCast v16
  let c500 : Index := 500#32
  let c0_323 : Index := 0#32
  ![v1217.toNat, 500, 0]
def k0_off137 (k0_t1 : Fin k0_t1_loop.trips) (c0_i32_8 : BitVec 32) : Fin 3 → Nat :=
  let c0_324 : Index := 0#32
  let c304_325 : Index := 304#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1221 : Index := Scalar.indexCast v18
  ![0, 304, v1221.toNat]
def k0_off138 (k0_t1 : Fin k0_t1_loop.trips) (c0_i32_8 : BitVec 32) : Fin 3 → Nat :=
  let c0_326 : Index := 0#32
  let c304_327 : Index := 304#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1225 : Index := Scalar.indexCast v21
  ![0, 304, v1225.toNat]
def k0_off139 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1246 : Index := Scalar.indexCast v16
  let c472 : Index := 472#32
  let c0_330 : Index := 0#32
  ![v1246.toNat, 472, 0]
def k0_off140 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1250 : Index := Scalar.indexCast v16
  let c508 : Index := 508#32
  let c0_331 : Index := 0#32
  ![v1250.toNat, 508, 0]
def k0_off141 (k0_t1 : Fin k0_t1_loop.trips) (c0_i32_8 : BitVec 32) : Fin 3 → Nat :=
  let c0_332 : Index := 0#32
  let c312_333 : Index := 312#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1254 : Index := Scalar.indexCast v18
  ![0, 312, v1254.toNat]
def k0_off142 (k0_t1 : Fin k0_t1_loop.trips) (c0_i32_8 : BitVec 32) : Fin 3 → Nat :=
  let c0_334 : Index := 0#32
  let c312_335 : Index := 312#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1258 : Index := Scalar.indexCast v21
  ![0, 312, v1258.toNat]
def k0_off143 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1279 : Index := Scalar.indexCast v16
  let c516 : Index := 516#32
  let c0_338 : Index := 0#32
  ![v1279.toNat, 516, 0]
def k0_off144 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1283 : Index := Scalar.indexCast v16
  let c480 : Index := 480#32
  let c0_339 : Index := 0#32
  ![v1283.toNat, 480, 0]
def k0_off145 (k0_t1 : Fin k0_t1_loop.trips) (c0_i32_8 : BitVec 32) : Fin 3 → Nat :=
  let c0_340 : Index := 0#32
  let c320_341 : Index := 320#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1287 : Index := Scalar.indexCast v18
  ![0, 320, v1287.toNat]
def k0_off146 (k0_t1 : Fin k0_t1_loop.trips) (c0_i32_8 : BitVec 32) : Fin 3 → Nat :=
  let c0_342 : Index := 0#32
  let c320_343 : Index := 320#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1291 : Index := Scalar.indexCast v21
  ![0, 320, v1291.toNat]
def k0_off147 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1312 : Index := Scalar.indexCast v16
  let c524 : Index := 524#32
  let c0_346 : Index := 0#32
  ![v1312.toNat, 524, 0]
def k0_off148 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1316 : Index := Scalar.indexCast v16
  let c488 : Index := 488#32
  let c0_347 : Index := 0#32
  ![v1316.toNat, 488, 0]
def k0_off149 (k0_t1 : Fin k0_t1_loop.trips) (c0_i32_8 : BitVec 32) : Fin 3 → Nat :=
  let c0_348 : Index := 0#32
  let c328_349 : Index := 328#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1320 : Index := Scalar.indexCast v18
  ![0, 328, v1320.toNat]
def k0_off150 (k0_t1 : Fin k0_t1_loop.trips) (c0_i32_8 : BitVec 32) : Fin 3 → Nat :=
  let c0_350 : Index := 0#32
  let c328_351 : Index := 328#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1324 : Index := Scalar.indexCast v21
  ![0, 328, v1324.toNat]
def k0_off151 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1345 : Index := Scalar.indexCast v16
  let c532 : Index := 532#32
  let c0_354 : Index := 0#32
  ![v1345.toNat, 532, 0]
def k0_off152 (k0_t1 : Fin k0_t1_loop.trips) (c0_i32_8 : BitVec 32) : Fin 3 → Nat :=
  let c0_355 : Index := 0#32
  let c336_356 : Index := 336#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1349 : Index := Scalar.indexCast v18
  ![0, 336, v1349.toNat]
def k0_off153 (k0_t1 : Fin k0_t1_loop.trips) (c0_i32_8 : BitVec 32) : Fin 3 → Nat :=
  let c0_357 : Index := 0#32
  let c336_358 : Index := 336#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1353 : Index := Scalar.indexCast v21
  ![0, 336, v1353.toNat]
def k0_off154 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1374 : Index := Scalar.indexCast v16
  let c540 : Index := 540#32
  let c0_361 : Index := 0#32
  ![v1374.toNat, 540, 0]
def k0_off155 (k0_t1 : Fin k0_t1_loop.trips) (c0_i32_8 : BitVec 32) : Fin 3 → Nat :=
  let c0_362 : Index := 0#32
  let c344_363 : Index := 344#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1378 : Index := Scalar.indexCast v18
  ![0, 344, v1378.toNat]
def k0_off156 (k0_t1 : Fin k0_t1_loop.trips) (c0_i32_8 : BitVec 32) : Fin 3 → Nat :=
  let c0_364 : Index := 0#32
  let c344_365 : Index := 344#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1382 : Index := Scalar.indexCast v21
  ![0, 344, v1382.toNat]
def k0_off157 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1403 : Index := Scalar.indexCast v16
  let c548 : Index := 548#32
  let c0_368 : Index := 0#32
  ![v1403.toNat, 548, 0]
def k0_off158 (k0_t1 : Fin k0_t1_loop.trips) (c0_i32_8 : BitVec 32) : Fin 3 → Nat :=
  let c0_369 : Index := 0#32
  let c352_370 : Index := 352#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1407 : Index := Scalar.indexCast v18
  ![0, 352, v1407.toNat]
def k0_off159 (k0_t1 : Fin k0_t1_loop.trips) (c0_i32_8 : BitVec 32) : Fin 3 → Nat :=
  let c0_371 : Index := 0#32
  let c352_372 : Index := 352#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1411 : Index := Scalar.indexCast v21
  ![0, 352, v1411.toNat]
def k0_off160 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1432 : Index := Scalar.indexCast v16
  let c556 : Index := 556#32
  let c0_375 : Index := 0#32
  ![v1432.toNat, 556, 0]
def k0_off161 (k0_t1 : Fin k0_t1_loop.trips) (c0_i32_8 : BitVec 32) : Fin 3 → Nat :=
  let c0_376 : Index := 0#32
  let c360_377 : Index := 360#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1436 : Index := Scalar.indexCast v18
  ![0, 360, v1436.toNat]
def k0_off162 (k0_t1 : Fin k0_t1_loop.trips) (c0_i32_8 : BitVec 32) : Fin 3 → Nat :=
  let c0_378 : Index := 0#32
  let c360_379 : Index := 360#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1440 : Index := Scalar.indexCast v21
  ![0, 360, v1440.toNat]
def k0_off163 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1461 : Index := Scalar.indexCast v16
  let c564 : Index := 564#32
  let c0_382 : Index := 0#32
  ![v1461.toNat, 564, 0]
def k0_off164 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1465 : Index := Scalar.indexCast v16
  let c600 : Index := 600#32
  let c0_383 : Index := 0#32
  ![v1465.toNat, 600, 0]
def k0_off165 (k0_t1 : Fin k0_t1_loop.trips) (c0_i32_8 : BitVec 32) : Fin 3 → Nat :=
  let c0_384 : Index := 0#32
  let c368_385 : Index := 368#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1469 : Index := Scalar.indexCast v18
  ![0, 368, v1469.toNat]
def k0_off166 (k0_t1 : Fin k0_t1_loop.trips) (c0_i32_8 : BitVec 32) : Fin 3 → Nat :=
  let c0_386 : Index := 0#32
  let c368_387 : Index := 368#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1473 : Index := Scalar.indexCast v21
  ![0, 368, v1473.toNat]
def k0_off167 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1494 : Index := Scalar.indexCast v16
  let c572 : Index := 572#32
  let c0_390 : Index := 0#32
  ![v1494.toNat, 572, 0]
def k0_off168 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1498 : Index := Scalar.indexCast v16
  let c608 : Index := 608#32
  let c0_391 : Index := 0#32
  ![v1498.toNat, 608, 0]
def k0_off169 (k0_t1 : Fin k0_t1_loop.trips) (c0_i32_8 : BitVec 32) : Fin 3 → Nat :=
  let c0_392 : Index := 0#32
  let c376_393 : Index := 376#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1502 : Index := Scalar.indexCast v18
  ![0, 376, v1502.toNat]
def k0_off170 (k0_t1 : Fin k0_t1_loop.trips) (c0_i32_8 : BitVec 32) : Fin 3 → Nat :=
  let c0_394 : Index := 0#32
  let c376_395 : Index := 376#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1506 : Index := Scalar.indexCast v21
  ![0, 376, v1506.toNat]
def k0_off171 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1527 : Index := Scalar.indexCast v16
  let c616 : Index := 616#32
  let c0_398 : Index := 0#32
  ![v1527.toNat, 616, 0]
def k0_off172 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1531 : Index := Scalar.indexCast v16
  let c580 : Index := 580#32
  let c0_399 : Index := 0#32
  ![v1531.toNat, 580, 0]
def k0_off173 (k0_t1 : Fin k0_t1_loop.trips) (c0_i32_8 : BitVec 32) : Fin 3 → Nat :=
  let c0_400 : Index := 0#32
  let c384_401 : Index := 384#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1535 : Index := Scalar.indexCast v18
  ![0, 384, v1535.toNat]
def k0_off174 (k0_t1 : Fin k0_t1_loop.trips) (c0_i32_8 : BitVec 32) : Fin 3 → Nat :=
  let c0_402 : Index := 0#32
  let c384_403 : Index := 384#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1539 : Index := Scalar.indexCast v21
  ![0, 384, v1539.toNat]
def k0_off175 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1560 : Index := Scalar.indexCast v16
  let c624 : Index := 624#32
  let c0_406 : Index := 0#32
  ![v1560.toNat, 624, 0]
def k0_off176 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1564 : Index := Scalar.indexCast v16
  let c588 : Index := 588#32
  let c0_407 : Index := 0#32
  ![v1564.toNat, 588, 0]
def k0_off177 (k0_t1 : Fin k0_t1_loop.trips) (c0_i32_8 : BitVec 32) : Fin 3 → Nat :=
  let c0_408 : Index := 0#32
  let c392_409 : Index := 392#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1568 : Index := Scalar.indexCast v18
  ![0, 392, v1568.toNat]
def k0_off178 (k0_t1 : Fin k0_t1_loop.trips) (c0_i32_8 : BitVec 32) : Fin 3 → Nat :=
  let c0_410 : Index := 0#32
  let c392_411 : Index := 392#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1572 : Index := Scalar.indexCast v21
  ![0, 392, v1572.toNat]
def k0_off179 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1593 : Index := Scalar.indexCast v16
  let c632 : Index := 632#32
  let c0_415 : Index := 0#32
  ![v1593.toNat, 632, 0]
def k0_off180 (k0_t1 : Fin k0_t1_loop.trips) (c0_i32_8 : BitVec 32) : Fin 3 → Nat :=
  let c0_416 : Index := 0#32
  let c400_417 : Index := 400#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1597 : Index := Scalar.indexCast v18
  ![0, 400, v1597.toNat]
def k0_off181 (k0_t1 : Fin k0_t1_loop.trips) (c0_i32_8 : BitVec 32) : Fin 3 → Nat :=
  let c0_418 : Index := 0#32
  let c400_419 : Index := 400#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1601 : Index := Scalar.indexCast v21
  ![0, 400, v1601.toNat]
def k0_off182 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1622 : Index := Scalar.indexCast v16
  let c640 : Index := 640#32
  let c0_423 : Index := 0#32
  ![v1622.toNat, 640, 0]
def k0_off183 (k0_t1 : Fin k0_t1_loop.trips) (c0_i32_8 : BitVec 32) : Fin 3 → Nat :=
  let c0_424 : Index := 0#32
  let c408_425 : Index := 408#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1626 : Index := Scalar.indexCast v18
  ![0, 408, v1626.toNat]
def k0_off184 (k0_t1 : Fin k0_t1_loop.trips) (c0_i32_8 : BitVec 32) : Fin 3 → Nat :=
  let c0_426 : Index := 0#32
  let c408_427 : Index := 408#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1630 : Index := Scalar.indexCast v21
  ![0, 408, v1630.toNat]
def k0_off185 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1651 : Index := Scalar.indexCast v16
  let c648 : Index := 648#32
  let c0_431 : Index := 0#32
  ![v1651.toNat, 648, 0]
def k0_off186 (k0_t1 : Fin k0_t1_loop.trips) (c0_i32_8 : BitVec 32) : Fin 3 → Nat :=
  let c0_432 : Index := 0#32
  let c416_433 : Index := 416#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1655 : Index := Scalar.indexCast v18
  ![0, 416, v1655.toNat]
def k0_off187 (k0_t1 : Fin k0_t1_loop.trips) (c0_i32_8 : BitVec 32) : Fin 3 → Nat :=
  let c0_434 : Index := 0#32
  let c416_435 : Index := 416#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1659 : Index := Scalar.indexCast v21
  ![0, 416, v1659.toNat]
def k0_off188 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1680 : Index := Scalar.indexCast v16
  let c656 : Index := 656#32
  let c0_439 : Index := 0#32
  ![v1680.toNat, 656, 0]
def k0_off189 (k0_t1 : Fin k0_t1_loop.trips) (c0_i32_8 : BitVec 32) : Fin 3 → Nat :=
  let c0_440 : Index := 0#32
  let c424_441 : Index := 424#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1684 : Index := Scalar.indexCast v18
  ![0, 424, v1684.toNat]
def k0_off190 (k0_t1 : Fin k0_t1_loop.trips) (c0_i32_8 : BitVec 32) : Fin 3 → Nat :=
  let c0_442 : Index := 0#32
  let c424_443 : Index := 424#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1688 : Index := Scalar.indexCast v21
  ![0, 424, v1688.toNat]
def k0_off191 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1709 : Index := Scalar.indexCast v16
  let c664 : Index := 664#32
  let c0_447 : Index := 0#32
  ![v1709.toNat, 664, 0]
def k0_off192 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1713 : Index := Scalar.indexCast v16
  let c700 : Index := 700#32
  let c0_448 : Index := 0#32
  ![v1713.toNat, 700, 0]
def k0_off193 (k0_t1 : Fin k0_t1_loop.trips) (c0_i32_8 : BitVec 32) : Fin 3 → Nat :=
  let c0_449 : Index := 0#32
  let c432_450 : Index := 432#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1717 : Index := Scalar.indexCast v18
  ![0, 432, v1717.toNat]
def k0_off194 (k0_t1 : Fin k0_t1_loop.trips) (c0_i32_8 : BitVec 32) : Fin 3 → Nat :=
  let c0_451 : Index := 0#32
  let c432_452 : Index := 432#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1721 : Index := Scalar.indexCast v21
  ![0, 432, v1721.toNat]
def k0_off195 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1742 : Index := Scalar.indexCast v16
  let c672 : Index := 672#32
  let c0_456 : Index := 0#32
  ![v1742.toNat, 672, 0]
def k0_off196 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1746 : Index := Scalar.indexCast v16
  let c708 : Index := 708#32
  let c0_457 : Index := 0#32
  ![v1746.toNat, 708, 0]
def k0_off197 (k0_t1 : Fin k0_t1_loop.trips) (c0_i32_8 : BitVec 32) : Fin 3 → Nat :=
  let c0_458 : Index := 0#32
  let c440_459 : Index := 440#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1750 : Index := Scalar.indexCast v18
  ![0, 440, v1750.toNat]
def k0_off198 (k0_t1 : Fin k0_t1_loop.trips) (c0_i32_8 : BitVec 32) : Fin 3 → Nat :=
  let c0_460 : Index := 0#32
  let c440_461 : Index := 440#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1754 : Index := Scalar.indexCast v21
  ![0, 440, v1754.toNat]
def k0_off199 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1775 : Index := Scalar.indexCast v16
  let c716 : Index := 716#32
  let c0_465 : Index := 0#32
  ![v1775.toNat, 716, 0]
def k0_off200 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1779 : Index := Scalar.indexCast v16
  let c680 : Index := 680#32
  let c0_466 : Index := 0#32
  ![v1779.toNat, 680, 0]
def k0_off201 (k0_t1 : Fin k0_t1_loop.trips) (c0_i32_8 : BitVec 32) : Fin 3 → Nat :=
  let c0_467 : Index := 0#32
  let c448_468 : Index := 448#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1783 : Index := Scalar.indexCast v18
  ![0, 448, v1783.toNat]
def k0_off202 (k0_t1 : Fin k0_t1_loop.trips) (c0_i32_8 : BitVec 32) : Fin 3 → Nat :=
  let c0_469 : Index := 0#32
  let c448_470 : Index := 448#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1787 : Index := Scalar.indexCast v21
  ![0, 448, v1787.toNat]
def k0_off203 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1808 : Index := Scalar.indexCast v16
  let c724 : Index := 724#32
  let c0_474 : Index := 0#32
  ![v1808.toNat, 724, 0]
def k0_off204 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1812 : Index := Scalar.indexCast v16
  let c688 : Index := 688#32
  let c0_475 : Index := 0#32
  ![v1812.toNat, 688, 0]
def k0_off205 (k0_t1 : Fin k0_t1_loop.trips) (c0_i32_8 : BitVec 32) : Fin 3 → Nat :=
  let c0_476 : Index := 0#32
  let c456_477 : Index := 456#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1816 : Index := Scalar.indexCast v18
  ![0, 456, v1816.toNat]
def k0_off206 (k0_t1 : Fin k0_t1_loop.trips) (c0_i32_8 : BitVec 32) : Fin 3 → Nat :=
  let c0_478 : Index := 0#32
  let c456_479 : Index := 456#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1820 : Index := Scalar.indexCast v21
  ![0, 456, v1820.toNat]
def k0_off207 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1841 : Index := Scalar.indexCast v16
  let c732 : Index := 732#32
  let c0_483 : Index := 0#32
  ![v1841.toNat, 732, 0]
def k0_off208 (k0_t1 : Fin k0_t1_loop.trips) (c0_i32_8 : BitVec 32) : Fin 3 → Nat :=
  let c0_484 : Index := 0#32
  let c464_485 : Index := 464#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1845 : Index := Scalar.indexCast v18
  ![0, 464, v1845.toNat]
def k0_off209 (k0_t1 : Fin k0_t1_loop.trips) (c0_i32_8 : BitVec 32) : Fin 3 → Nat :=
  let c0_486 : Index := 0#32
  let c464_487 : Index := 464#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1849 : Index := Scalar.indexCast v21
  ![0, 464, v1849.toNat]
def k0_off210 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1870 : Index := Scalar.indexCast v16
  let c740 : Index := 740#32
  let c0_491 : Index := 0#32
  ![v1870.toNat, 740, 0]
def k0_off211 (k0_t1 : Fin k0_t1_loop.trips) (c0_i32_8 : BitVec 32) : Fin 3 → Nat :=
  let c0_492 : Index := 0#32
  let c472_493 : Index := 472#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1874 : Index := Scalar.indexCast v18
  ![0, 472, v1874.toNat]
def k0_off212 (k0_t1 : Fin k0_t1_loop.trips) (c0_i32_8 : BitVec 32) : Fin 3 → Nat :=
  let c0_494 : Index := 0#32
  let c472_495 : Index := 472#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1878 : Index := Scalar.indexCast v21
  ![0, 472, v1878.toNat]
def k0_off213 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1899 : Index := Scalar.indexCast v16
  let c748 : Index := 748#32
  let c0_499 : Index := 0#32
  ![v1899.toNat, 748, 0]
def k0_off214 (k0_t1 : Fin k0_t1_loop.trips) (c0_i32_8 : BitVec 32) : Fin 3 → Nat :=
  let c0_500 : Index := 0#32
  let c480_501 : Index := 480#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1903 : Index := Scalar.indexCast v18
  ![0, 480, v1903.toNat]
def k0_off215 (k0_t1 : Fin k0_t1_loop.trips) (c0_i32_8 : BitVec 32) : Fin 3 → Nat :=
  let c0_502 : Index := 0#32
  let c480_503 : Index := 480#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1907 : Index := Scalar.indexCast v21
  ![0, 480, v1907.toNat]
def k0_off216 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1928 : Index := Scalar.indexCast v16
  let c756 : Index := 756#32
  let c0_507 : Index := 0#32
  ![v1928.toNat, 756, 0]
def k0_off217 (k0_t1 : Fin k0_t1_loop.trips) (c0_i32_8 : BitVec 32) : Fin 3 → Nat :=
  let c0_508 : Index := 0#32
  let c488_509 : Index := 488#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1932 : Index := Scalar.indexCast v18
  ![0, 488, v1932.toNat]
def k0_off218 (k0_t1 : Fin k0_t1_loop.trips) (c0_i32_8 : BitVec 32) : Fin 3 → Nat :=
  let c0_510 : Index := 0#32
  let c488_511 : Index := 488#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1936 : Index := Scalar.indexCast v21
  ![0, 488, v1936.toNat]
def k0_off219 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1957 : Index := Scalar.indexCast v16
  let c764 : Index := 764#32
  let c0_514 : Index := 0#32
  ![v1957.toNat, 764, 0]
def k0_off220 (k0_t1 : Fin k0_t1_loop.trips) (c0_i32_8 : BitVec 32) : Fin 3 → Nat :=
  let c0_515 : Index := 0#32
  let c496_516 : Index := 496#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1961 : Index := Scalar.indexCast v18
  ![0, 496, v1961.toNat]
def k0_off221 (k0_t1 : Fin k0_t1_loop.trips) (c0_i32_8 : BitVec 32) : Fin 3 → Nat :=
  let c0_517 : Index := 0#32
  let c496_518 : Index := 496#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1965 : Index := Scalar.indexCast v21
  ![0, 496, v1965.toNat]
def k0_off222 (k0_t1 : Fin k0_t1_loop.trips) (c0_i32_8 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let v1986 : Index := Scalar.indexCast v16
  let c772 : Index := 772#32
  let c0_521 : Index := 0#32
  ![v1986.toNat, 772, 0]
def k0_off223 (k0_t1 : Fin k0_t1_loop.trips) (c0_i32_8 : BitVec 32) : Fin 3 → Nat :=
  let c0_522 : Index := 0#32
  let c504_523 : Index := 504#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32 : BitVec 32 := 128#32
  let v17 : BitVec 32 := Scalar.muli v16 c128_i32
  let v18 : BitVec 32 := v17
  let v1990 : Index := Scalar.indexCast v18
  ![0, 504, v1990.toNat]
def k0_off224 (k0_t1 : Fin k0_t1_loop.trips) (c0_i32_8 : BitVec 32) : Fin 3 → Nat :=
  let c0_524 : Index := 0#32
  let c504_525 : Index := 504#32
  let c1536_i32_10 : BitVec 32 := 1536#32
  let c0_i32_1 : BitVec 32 := 0#32
  let c1_i32 : BitVec 32 := 1#32
  let arg10 : BitVec 32 := Scf.iv c0_i32_1 c1_i32 k0_t1
  let c2_i32 : BitVec 32 := 2#32
  let v15 : BitVec 32 := Scalar.muli arg10 c2_i32
  let v16 : BitVec 32 := Scalar.addi v15 c0_i32_8
  let c128_i32_9 : BitVec 32 := 128#32
  let v19 : BitVec 32 := Scalar.muli v16 c128_i32_9
  let v20 : BitVec 32 := Scalar.addi c1536_i32_10 v19
  let v21 : BitVec 32 := v20
  let v1994 : Index := Scalar.indexCast v21
  ![0, 504, v1994.toNat]
def k0_mult4 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32_526 : BitVec 32 := 2#32
  let v1998 : BitVec 32 := Scalar.muli arg10 c2_i32_526
  let c1_i32_527 : BitVec 32 := 1#32
  let v1999 : BitVec 32 := Scalar.addi v1998 c1_i32_527
  let c128_i32_528 : BitVec 32 := 128#32
  let v2000 : BitVec 32 := Scalar.muli v1999 c128_i32_528
  v2000
def k0_mult5 (k0_t1 : Fin k0_t1_loop.trips) : BitVec 32 :=
  let c1536_i32_530 : BitVec 32 := 1536#32
  let c0_i32_1 : BitVec 32 := 0#32
  let c1_i32 : BitVec 32 := 1#32
  let arg10 : BitVec 32 := Scf.iv c0_i32_1 c1_i32 k0_t1
  let c2_i32_526 : BitVec 32 := 2#32
  let v1998 : BitVec 32 := Scalar.muli arg10 c2_i32_526
  let c1_i32_527 : BitVec 32 := 1#32
  let v1999 : BitVec 32 := Scalar.addi v1998 c1_i32_527
  let c128_i32_529 : BitVec 32 := 128#32
  let v2002 : BitVec 32 := Scalar.muli v1999 c128_i32_529
  let v2003 : BitVec 32 := Scalar.addi c1536_i32_530 v2002
  v2003
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HeadReferenceIdeal.lean ====
abbrev S3x512x1536 : Shape := ⟨3, ![3, 512, 1536]⟩
abbrev S3x512x1 : Shape := ⟨3, ![3, 512, 1]⟩
abbrev S1536x3072 : Shape := ⟨2, ![1536, 3072]⟩
abbrev S3072 : Shape := ⟨1, ![3072]⟩
abbrev S1x1x3072 : Shape := ⟨3, ![1, 1, 3072]⟩
abbrev S3x512x3072 : Shape := ⟨3, ![3, 512, 3072]⟩
abbrev S1536x1536 : Shape := ⟨2, ![1536, 1536]⟩

abbrev nBuf : Space → Nat
  | .hbm => 8
  | .vmem => 6
  | .smem => 0
  | _ => 0

abbrev bufTy : (tb : Table) → Fin (tcTables nBuf tb) → BufTy
  | .hbm, ⟨0, _⟩ => ⟨S3x512x1536, .fp8e4m3⟩
  | .hbm, ⟨1, _⟩ => ⟨S3x512x1, .f32⟩
  | .hbm, ⟨2, _⟩ => ⟨S1536x3072, .fp8e4m3⟩
  | .hbm, ⟨3, _⟩ => ⟨S3072, .f32⟩
  | .hbm, ⟨4, _⟩ => ⟨S3072, .f32⟩
  | .hbm, ⟨5, _⟩ => ⟨S1x1x3072, .f32⟩
  | .hbm, ⟨6, _⟩ => ⟨S1x1x3072, .f32⟩
  | .hbm, ⟨7, _⟩ => ⟨S3x512x3072, .f32⟩
  | .local _ .vmem, ⟨0, _⟩ => ⟨S3x512x1536, .fp8e4m3⟩
  | .local _ .vmem, ⟨1, _⟩ => ⟨S3x512x1, .f32⟩
  | .local _ .vmem, ⟨2, _⟩ => ⟨S1536x3072, .fp8e4m3⟩
  | .local _ .vmem, ⟨3, _⟩ => ⟨S1x1x3072, .f32⟩
  | .local _ .vmem, ⟨4, _⟩ => ⟨S1x1x3072, .f32⟩
  | .local _ .vmem, ⟨5, _⟩ => ⟨S3x512x3072, .f32⟩
  | _, _ => ⟨S3x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x512x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  The row quantiser's scale. One side finds the exponent field of `r` by eight comparisons with the words
  `field <<< 23` and builds the scale and its inverse from it; the other takes the least power of two above `r`
  among the exponents −125 … 120. Over the extended reals the two are one number, for every `r`.
-/
module

public import Idealize.ShloMosaic.PureOps.Ideal
public import Idealize.ShloMosaic.Lib.Tactic

@[expose] public section

noncomputable section

namespace Cert.Scale

open Idealize.ShloMosaic

/-- The float whose exponent field is `n` and whose fraction is zero. -/
def F (n : ℕ) : EReal := Ideal.ieee 8 23 (BitVec.ofNat 32 n <<< 23)

/-- The real `2 ^ k`. -/
def two (k : ℤ) : ℝ := (2 : ℝ) ^ k

theorem two_pos (k : ℤ) : 0 < two k := zpow_pos (by norm_num) k

theorem two_le {a b : ℤ} (h : a ≤ b) : two a ≤ two b := zpow_le_zpow_right₀ (by norm_num) h

theorem fields : ∀ n : Fin 256,
    (BitVec.ofNat 32 n.val <<< 23).extractLsb' 31 1 = 0#1 ∧
    ((BitVec.ofNat 32 n.val <<< 23).extractLsb' 23 8).toNat = n.val ∧
    ((BitVec.ofNat 32 n.val <<< 23).extractLsb' 0 23).toNat = 0 := by decide +kernel

theorem shift (n : ℕ) : (1 : ℝ) * ((2 ^ 23 + 0 : ℕ) : ℝ) * (2 : ℝ) ^ ((n : ℤ) - (2 ^ (8 - 1) - 1) - ((23 : ℕ) : ℤ))
    = (2 : ℝ) ^ ((n : ℤ) - 127) := by
  have e : (n : ℤ) - 127 = ((n : ℤ) - (2 ^ (8 - 1) - 1) - ((23 : ℕ) : ℤ)) + ((23 : ℕ) : ℤ) := by norm_num
  rw [e, zpow_add₀ (by norm_num : (2 : ℝ) ≠ 0), zpow_natCast]
  generalize (2 : ℝ) ^ ((n : ℤ) - (2 ^ (8 - 1) - 1) - ((23 : ℕ) : ℤ)) = X
  push_cast
  ring

theorem F_eq {n : ℕ} (h0 : 0 < n) (h : n < 255) : F n = ((two ((n : ℤ) - 127) : ℝ) : EReal) := by
  obtain ⟨a, b, c⟩ := fields ⟨n, by omega⟩
  have h1 : ¬ n = 2 ^ 8 - 1 := by omega
  have h2 : ¬ n = 0 := by omega
  have e2 : ((0#1 == 1#1) = true) = False := by decide
  rw [two, ← shift]
  simp only [F, Ideal.ieee]
  rw [show 8 + 23 = 31 from rfl, a, b, c, if_neg h1, if_neg h2]
  simp only [e2, if_false]

theorem F_top : F 255 = ⊤ := by
  obtain ⟨a, b, c⟩ := fields ⟨255, by omega⟩
  simp only at a b c
  unfold F Ideal.ieee
  simp only [Nat.reduceAdd, a, b, c]
  simp

theorem F_zero : F 0 = 0 := by
  obtain ⟨a, b, c⟩ := fields ⟨0, by omega⟩
  simp only at a b c
  unfold F Ideal.ieee
  simp only [Nat.reduceAdd, a, b, c]
  simp

/-- One comparison of the search: bit `b` is kept where `r` is at least the float of field `n + b`. -/
def step (r : EReal) (b n : ℕ) : ℕ := if F (n + b) ≤ r then n + b else n

/-- The field the eight comparisons find. -/
def search (r : EReal) : ℕ :=
  step r 1 (step r 2 (step r 4 (step r 8 (step r 16 (step r 32 (step r 64 (step r 128 0)))))))

/-- What holds of the field `n` found so far, with bits below `b` open. -/
structure Inv (r : EReal) (b n : ℕ) : Prop where
  le : n + b ≤ 256
  lo : n = 0 ∨ F n ≤ r
  hi : n + b = 256 ∨ r < F (n + b)

theorem Inv.step {r : EReal} {b n : ℕ} (h : Inv r (2 * b) n) (hb : 0 < b) : Inv r b (step r b n) := by
  have h1 := h.le
  unfold Scale.step
  split
  next hc =>
    refine ⟨by omega, Or.inr hc, ?_⟩
    rcases h.hi with h2 | h2
    · left; omega
    · right; rw [show n + b + b = n + 2 * b by ring]; exact h2
  next hc =>
    exact ⟨by omega, h.lo, Or.inr (not_le.1 hc)⟩

theorem search_inv (r : EReal) : Inv r 1 (search r) := by
  have h0 : Inv r (2 * 128) 0 := ⟨by norm_num, Or.inl rfl, Or.inl rfl⟩
  exact ((((((((h0.step (by norm_num)).step (b := 64) (by norm_num)).step (b := 32) (by norm_num)).step (b := 16)
    (by norm_num)).step (b := 8) (by norm_num)).step (b := 4) (by norm_num)).step (b := 2) (by norm_num)).step (b := 1)
    (by norm_num))

/-- The exponent the search leads to: none for a field of 0 or 255, else the field less 126, at most 120. -/
def expo (r : EReal) : ℤ :=
  if search r = 0 ∨ search r = 255 then 0 else (min (search r) 246 : ℕ) - 126

/-- The scale, as the least power of two above `r` among those of the exponents −125 … 120; one where `r` is below
    every normal number or is infinite. -/
def scale (r : EReal) : EReal :=
  if r < ((two (-126) : ℝ) : EReal) ∨ r = ⊤ then 1
  else (Finset.univ : Finset (Fin 246)).fold min ⊤
    (fun k => if r < ((two ((k.val : ℤ) - 125) : ℝ) : EReal) then ((two ((k.val : ℤ) - 125) : ℝ) : EReal) else ((two 120 : ℝ) : EReal))

theorem fold_min_eq {ι : Type} (s : Finset ι) (f : ι → EReal) (v : EReal) (h : ∀ i ∈ s, v ≤ f i)
    (hm : ∃ i ∈ s, f i = v) : s.fold min ⊤ f = v := by
  apply le_antisymm
  · obtain ⟨i, hi, e⟩ := hm
    rw [← e]
    exact (Finset.le_fold_min (s := s) (f := f) (b := ⊤) (s.fold min ⊤ f)).1 le_rfl |>.2 i hi
  · exact (Finset.le_fold_min v).2 ⟨le_top, h⟩

theorem scale_eq (r : EReal) : scale r = ((two (expo r) : ℝ) : EReal) := by
  obtain ⟨hle, hlo, hhi⟩ := search_inv r
  set s := search r with hs
  have hle' : s ≤ 255 := by omega
  unfold scale expo
  rw [← hs]
  by_cases h0 : s = 0
  · have : r < ((two (-126) : ℝ) : EReal) := by
      rcases hhi with h | h
      · omega
      · rw [h0, F_eq (by norm_num) (by norm_num)] at h
        simpa using h
    rw [if_pos (Or.inl this), if_pos (Or.inl h0)]; simp [two]
  by_cases h255 : s = 255
  · have : r = ⊤ := by
      rcases hlo with h | h
      · omega
      · rw [h255, F_top] at h; exact top_le_iff.1 h
    rw [if_pos (Or.inr this), if_pos (Or.inr h255)]; simp [two]
  have hs1 : ((two ((s : ℤ) - 127) : ℝ) : EReal) ≤ r := by
    rcases hlo with h | h
    · omega
    · rwa [F_eq (by omega) (by omega)] at h
  have hnlt : ∀ k : ℤ, k ≤ (s : ℤ) - 127 → ¬ r < ((two k : ℝ) : EReal) := fun k hk =>
    not_lt.2 (le_trans (EReal.coe_le_coe_iff.2 (two_le hk)) hs1)
  have htop : r ≠ ⊤ := by
    rintro rfl
    rcases hhi with h | h
    · omega
    · exact not_top_lt h
  rw [if_neg (by rintro (h | h); exact hnlt (-126) (by omega) h; exact htop h), if_neg (by omega)]
  apply fold_min_eq
  · intro k _
    split
    next hk =>
      apply EReal.coe_le_coe_iff.2 (two_le _)
      by_contra hc
      refine hnlt _ ?_ hk
      omega
    next hk => exact EReal.coe_le_coe_iff.2 (two_le (by omega))
  · by_cases hb : s ≤ 246
    · refine ⟨⟨s - 1, by omega⟩, Finset.mem_univ _, ?_⟩
      have e : (((s - 1 : ℕ) : ℤ) - 125) = ((min s 246 : ℕ) : ℤ) - 126 := by omega
      rw [e, if_pos]
      rcases hhi with h | h
      · omega
      · rw [F_eq (by omega) (by omega)] at h
        convert h using 3
        omega
    · refine ⟨0, Finset.mem_univ _, ?_⟩
      rw [if_neg (hnlt _ (by simp; omega))]
      congr 2
      omega

theorem expo_le (r : EReal) : -125 ≤ expo r ∧ expo r ≤ 120 := by
  obtain ⟨hle, -, -⟩ := search_inv r
  unfold expo
  split <;> omega

/-- Dividing by the scale is multiplying by the power of two of the opposite exponent. -/
theorem div_scale (n r : EReal) : Ideal.div n (scale r) = n * ((two (-expo r) : ℝ) : EReal) := by
  rw [scale_eq, Ideal.div_coe (two_pos _).ne']
  congr 2
  unfold two
  rw [zpow_neg, one_div]

/-! ## The same search over words -/

/-- One comparison over words, as the body spells it. -/
def stepW (r : EReal) (b w : BitVec 32) : BitVec 32 :=
  Scalar.select (Ideal.cmp .oge r (Ideal.ieee 8 23 (IntOp.shli .vector (IntOp.addi w b) 23#32))) (IntOp.addi w b) w

theorem stepW_eq (r : EReal) (b n : ℕ) : stepW r (BitVec.ofNat 32 b) (BitVec.ofNat 32 n) = BitVec.ofNat 32 (step r b n) := by
  have e : IntOp.addi (BitVec.ofNat 32 n) (BitVec.ofNat 32 b) = BitVec.ofNat 32 (n + b) := (BitVec.ofNat_add n b).symm
  have e2 : IntOp.shli .vector (BitVec.ofNat 32 (n + b)) 23#32 = BitVec.ofNat 32 (n + b) <<< 23 := by
    unfold IntOp.shli
    rw [if_pos (by decide)]
    rfl
  unfold stepW step
  rw [e, e2]
  unfold Scalar.select Ideal.cmp
  by_cases h : F (n + b) ≤ r
  · rw [if_pos h, if_pos]
    show BitVec.ofBool (decide (F (n + b) ≤ r)) = 1
    rw [decide_eq_true h]; rfl
  · rw [if_neg h, if_neg]
    show ¬ BitVec.ofBool (decide (F (n + b) ≤ r)) = 1
    rw [decide_eq_false h]; decide

/-- The field found, over words. -/
def searchW (r : EReal) : BitVec 32 :=
  stepW r 1#32 (stepW r 2#32 (stepW r 4#32 (stepW r 8#32 (stepW r 16#32 (stepW r 32#32 (stepW r 64#32 (stepW r 128#32 0#32)))))))

theorem searchW_eq (r : EReal) : searchW r = BitVec.ofNat 32 (search r) := by
  unfold searchW search
  simp only [← stepW_eq]

/-- The field, no greater than 246 unless it is 255. -/
def capW (w : BitVec 32) : BitVec 32 := Scalar.select (IntOp.cmpi .eq w 255#32) 255#32 (IntOp.minsi w 246#32)

/-- Whether a field is 0 or 255. -/
def edgeW (w : BitVec 32) : BitVec 1 := IntOp.ori (IntOp.cmpi .eq w 0#32) (IntOp.cmpi .eq w 255#32)

/-- The exponent from the capped field. -/
def expoW (w : BitVec 32) : BitVec 32 := Scalar.select (edgeW w) 0#32 (IntOp.subi w 126#32)

/-- The word of the inverse scale. -/
def invW (w : BitVec 32) : BitVec 32 := IntOp.shli .vector (IntOp.subi 127#32 (expoW w)) 23#32

/-- The word of the scale. -/
def sclW (w : BitVec 32) : BitVec 32 := IntOp.shli .vector (IntOp.addi (expoW w) 127#32) 23#32

theorem invW_eq : ∀ s : Fin 256, invW (capW (BitVec.ofNat 32 s.val))
    = BitVec.ofNat 32 (if s.val = 0 ∨ s.val = 255 then 127 else 253 - min s.val 246) <<< 23 := by decide +kernel

theorem sclW_eq : ∀ s : Fin 256, sclW (capW (BitVec.ofNat 32 s.val))
    = BitVec.ofNat 32 (if s.val = 0 ∨ s.val = 255 then 127 else 1 + min s.val 246) <<< 23 := by decide +kernel

theorem search_lt (r : EReal) : search r < 256 := by
  have := (search_inv r).le
  omega

/-- The inverse scale the words give is the power of two of the opposite exponent. -/
theorem inv_eq (r : EReal) : Ideal.ieee 8 23 (invW (capW (searchW r))) = ((two (-expo r) : ℝ) : EReal) := by
  have hs := search_lt r
  rw [searchW_eq, invW_eq ⟨search r, hs⟩]
  simp only
  unfold expo
  split
  next h => exact (F_eq (n := 127) (by norm_num) (by norm_num)).trans (by norm_num)
  next h =>
    refine (F_eq (n := 253 - min (search r) 246) (by omega) (by omega)).trans ?_
    congr 2
    omega

/-- The scale the words give is the least power of two above `r`. -/
theorem scl_eq (r : EReal) : Ideal.ieee 8 23 (sclW (capW (searchW r))) = scale r := by
  have hs := search_lt r
  rw [searchW_eq, sclW_eq ⟨search r, hs⟩, scale_eq]
  simp only
  unfold expo
  split
  next h => exact (F_eq (n := 127) (by norm_num) (by norm_num)).trans (by norm_num)
  next h =>
    refine (F_eq (n := 1 + min (search r) 246) (by omega) (by omega)).trans ?_
    congr 2
    omega

/-- Multiplying by the words' inverse is dividing by the scale. -/
theorem mul_inv (n r : EReal) : n * Ideal.ieee 8 23 (invW (capW (searchW r))) = Ideal.div n (scale r) := by
  rw [inv_eq, div_scale]

end Cert.Scale

end
-- ==== Proof.Row.lean ====
/-
  One row of the module's tail as plain functions of a row: the second product with its scales, bias and residual,
  the layer norm, and the fp8 row quantiser.
-/
module

public import proofs.«01_k».proof.Proof.Scale

@[expose] public section

noncomputable section

namespace Cert.Row

open Idealize.ShloMosaic

/-- One element of the second product's row with its scales, bias and the residual added. -/
def outv (x : EReal) (q : Fin 1536 → EReal) (w : Fin 1536 → EReal) (s ws b : EReal) : EReal :=
  x + ((∑ k : Fin 1536, q k * w k) * s * ws + b)

/-- A row's mean. -/
def mean (o : Fin 1536 → EReal) : EReal := Ideal.div (∑ k : Fin 1536, o k) (Ideal.ofBits .f32 0x44C00000#32)

/-- A row's layer norm at column `c`. -/
def norm (o g b : Fin 1536 → EReal) (c : Fin 1536) : EReal :=
  (o c - mean o) * Ideal.rsqrt (mean (fun k => (o k - mean o) * (o k - mean o)) + Ideal.ofBits .f32 0x3727C5AC#32) * g c + b c

/-- A row's greatest magnitude over 448. -/
def rmax (n : Fin 1536 → EReal) : EReal :=
  Finset.univ.fold max (Ideal.ofBits .f32 0xFF800000#32) (fun k : Fin 1536 => FloatOps.absf (F := Ideal) (φ := .f32) (n k)) * Ideal.ofBits .f32 0x3B124925#32

/-- Clipped at ±448. -/
def clip (v : EReal) : EReal := min (Ideal.ofBits .f32 0x43E00000#32) (max (Ideal.ofBits .f32 0xC3E00000#32) v)

/-- A row's code at column `c`: the normed row over its scale, clipped. -/
def code (n : Fin 1536 → EReal) (c : Fin 1536) : EReal := clip (Ideal.div (n c) (Scale.scale (rmax n)))

end Cert.Row

end
-- ==== Proof.PayK.lean ====
/-
  The kernel body's arithmetic at an index of a tile of 128 rows.
-/
module

public import proofs.«01_k».proof.Proof.Row
public import proofs.«01_k».proof.Proof.Gen.KernelIdeal.Skeleton
public import Idealize.ShloMosaic.Lib.Pointwise

@[expose] public section

set_option maxRecDepth 16384

noncomputable section

namespace Cert.KernelIdeal.Pay

open Idealize.ShloMosaic Cert.KernelIdeal Cert.KernelIdeal.Gen

theorem pay4_apply (v4 : Vec Ideal S1x128x1536 .fp8e4m3) (v6 : Vec Ideal S1536x1536 .fp8e4m3) (v9 : Vec Ideal S1x128x128 .f32)
    (v14 v18 : Vec Ideal S1x1536 .f32) (v23 : Vec Ideal S1x128x1536 .bf16) (r : Fin 128) (c : Fin 1536) :
    k0_pay4 v4 v6 v9 v14 v18 v23 (ix2 r c) =
      Row.outv (v23 (ix3 0 r c)) (fun k => v4 (ix3 0 r k)) (fun k => v6 (ix2 k c)) (v9 (ix3 0 r 0)) (v14 (ix2 0 c)) (v18 (ix2 0 c)) := by
  unfold Row.outv
  pointwise [k0_pay4]

theorem pay9_apply (v4 : Vec Ideal S1x128x1536 .fp8e4m3) (v6 : Vec Ideal S1536x1536 .fp8e4m3) (v9 : Vec Ideal S1x128x128 .f32)
    (v14 v18 : Vec Ideal S1x1536 .f32) (v23 : Vec Ideal S1x128x1536 .bf16) (r : Fin 128) :
    k0_pay9 v4 v6 v9 v14 v18 v23 (ix1 r) = ∑ k : Fin 1536, k0_pay6 v4 v6 v9 v14 v18 v23 (ix2 r k) := by
  pointwise [k0_pay9]

theorem pay10_apply (v32 : FVec Ideal S128x1536 .f32) (v34 v36 : FVec Ideal S1x1536 .f32) (v37 : FVec Ideal S128 .f32)
    (r : Fin 128) (h : v37 (ix1 r) = ∑ k : Fin 1536, v32 (ix2 r k)) (c : Fin 1536) :
    k0_pay10 v32 v34 v36 v37 (ix2 r c)
      = Row.norm (fun k => v32 (ix2 r k)) (fun k => v34 (ix2 0 k)) (fun k => v36 (ix2 0 k)) c := by
  unfold Row.norm Row.mean
  rw [← h]
  pointwise [k0_pay10]

theorem pay11_apply (v32 : FVec Ideal S128x1536 .f32) (v34 v36 : FVec Ideal S1x1536 .f32) (v37 : FVec Ideal S128 .f32)
    (r : Fin 128) :
    k0_pay11 v32 v34 v36 v37 (ix2 r 0)
      = Row.rmax (fun k => k0_pay10 v32 v34 v36 v37 (ix2 r k)) := by
  unfold Row.rmax
  pointwise [k0_pay11]

/-- One comparison of the search on a column vector. -/
def stepV (x : FVec Ideal S128x1 .f32) (b : BitVec 32) (w : IVec S128x1 32) : IVec S128x1 32 :=
  select (cmpf .oge x (bitcastToFloat .f32 (shli (addi w (broadcast S128x1 b)) (broadcast S128x1 23#32)) : FVec Ideal S128x1 .f32))
    (addi w (broadcast S128x1 b)) w

theorem stepV_apply (x : FVec Ideal S128x1 .f32) (b : BitVec 32) (w : IVec S128x1 32) (i : S128x1.Idx) :
    stepV x b w i = Scale.stepW (x i) b (w i) := rfl

theorem pay12_apply (v32 : FVec Ideal S128x1536 .f32) (v34 v36 : FVec Ideal S1x1536 .f32) (v37 : FVec Ideal S128 .f32)
    (i : S128x1.Idx) :
    k0_pay12 v32 v34 v36 v37 i
      = Scale.stepW (k0_pay11 v32 v34 v36 v37 i) 32#32 (Scale.stepW (k0_pay11 v32 v34 v36 v37 i) 64#32
          (Scale.stepW (k0_pay11 v32 v34 v36 v37 i) 128#32 0#32)) := by
  unfold k0_pay12
  generalize k0_pay11 v32 v34 v36 v37 = X
  have h : stepV X 32#32 (stepV X 64#32 (stepV X 128#32 (broadcast S128x1 0#32))) i = _ := rfl
  refine h.symm.trans ?_
  rw [stepV_apply, stepV_apply, stepV_apply]
  rfl

theorem pay13_apply (v61 : FVec Ideal S128x1 .f32) (v83 : IVec S128x1 32) (i : S128x1.Idx) :
    k0_pay13 v61 v83 16#32 i
      = Scale.capW (Scale.stepW (v61 i) 1#32 (Scale.stepW (v61 i) 2#32 (Scale.stepW (v61 i) 4#32
          (Scale.stepW (v61 i) 8#32 (Scale.stepW (v61 i) 16#32 (v83 i)))))) := by
  have h : k0_pay13 v61 v83 16#32 = fun i => Scale.capW
      (stepV v61 1#32 (stepV v61 2#32 (stepV v61 4#32 (stepV v61 8#32 (stepV v61 16#32 v83)))) i) := rfl
  rw [h]
  simp only [stepV_apply]

theorem pay14_apply (v61 : FVec Ideal S128x1 .f32) (v83 : IVec S128x1 32) (r : Fin 128) :
    k0_pay14 v61 v83 16#32 (ix2 r 0) = Scale.edgeW (k0_pay13 v61 v83 16#32 (ix2 r 0)) := by
  unfold k0_pay14
  generalize k0_pay13 v61 v83 16#32 = X
  rfl

theorem pay2_apply (v56 : FVec Ideal S128x1536 .f32) (v124 : IVec S128x1 32) (v129 : IVec S128x1 1) (r : Fin 128)
    (h : v129 (ix2 r 0) = Scale.edgeW (v124 (ix2 r 0))) (c : Fin 1536) :
    k0_pay2 v56 v124 v129 (ix3 0 r c) = Row.clip (v56 (ix2 r c) * Ideal.ieee 8 23 (Scale.invW (v124 (ix2 r 0)))) := by
  unfold Row.clip Scale.invW Scale.expoW
  rw [← h]
  pointwise [k0_pay2, k0_pay1]
  rfl

section Tile

variable (v4 : Vec Ideal S1x128x1536 .fp8e4m3) (v6 : Vec Ideal S1536x1536 .fp8e4m3) (v9 : Vec Ideal S1x128x128 .f32)
    (v14 v18 v33 v35 : Vec Ideal S1x1536 .f32) (v23 : Vec Ideal S1x128x1536 .bf16) (r : Fin 128) (c : Fin 1536)

/-- Row `r` of a tile's output. -/
def orow (c : Fin 1536) : EReal :=
  Row.outv (v23 (ix3 0 r c)) (fun k => v4 (ix3 0 r k)) (fun k => v6 (ix2 k c)) (v9 (ix3 0 r 0)) (v14 (ix2 0 c)) (v18 (ix2 0 c))

/-- Row `r` of a tile's normed output. -/
def nrow : Fin 1536 → EReal :=
  Row.norm (orow v4 v6 v9 v14 v18 v23 r) (fun k => v33 (ix2 0 k)) (fun k => v35 (ix2 0 k))

theorem pay5_apply : k0_pay5 v4 v6 v9 v14 v18 v23 (ix3 0 r c) = orow v4 v6 v9 v14 v18 v23 r c := by
  unfold orow
  rw [← pay4_apply]
  pointwise [k0_pay5]

theorem pay6_apply : k0_pay6 v4 v6 v9 v14 v18 v23 (ix2 r c) = orow v4 v6 v9 v14 v18 v23 r c := by
  unfold orow
  rw [← pay4_apply]
  pointwise [k0_pay6]

theorem n_apply : k0_pay10 (k0_pay6 v4 v6 v9 v14 v18 v23) (k0_pay7 v33) (k0_pay8 v35) (k0_pay9 v4 v6 v9 v14 v18 v23) (ix2 r c)
    = nrow v4 v6 v9 v14 v18 v33 v35 v23 r c := by
  rw [pay10_apply _ _ _ _ _ (pay9_apply ..)]
  simp only [pay6_apply]
  unfold nrow
  congr 1 <;> (funext k; pointwise [k0_pay7, k0_pay8])

/-- The stored code at row `r`, column `c` of a tile. -/
theorem q_apply : k0_pay2
      (k0_pay10 (k0_pay6 v4 v6 v9 v14 v18 v23) (k0_pay7 v33) (k0_pay8 v35) (k0_pay9 v4 v6 v9 v14 v18 v23))
      (k0_pay13 (k0_pay11 (k0_pay6 v4 v6 v9 v14 v18 v23) (k0_pay7 v33) (k0_pay8 v35) (k0_pay9 v4 v6 v9 v14 v18 v23))
        (k0_pay12 (k0_pay6 v4 v6 v9 v14 v18 v23) (k0_pay7 v33) (k0_pay8 v35) (k0_pay9 v4 v6 v9 v14 v18 v23)) 16#32)
      (k0_pay14 (k0_pay11 (k0_pay6 v4 v6 v9 v14 v18 v23) (k0_pay7 v33) (k0_pay8 v35) (k0_pay9 v4 v6 v9 v14 v18 v23))
        (k0_pay12 (k0_pay6 v4 v6 v9 v14 v18 v23) (k0_pay7 v33) (k0_pay8 v35) (k0_pay9 v4 v6 v9 v14 v18 v23)) 16#32)
      (ix3 0 r c)
    = Row.code (nrow v4 v6 v9 v14 v18 v33 v35 v23 r) c := by
  rw [pay2_apply _ _ _ _ (pay14_apply ..), pay13_apply, pay12_apply, pay11_apply]
  simp only [n_apply]
  unfold Row.code
  rw [← Scale.mul_inv]
  rfl

end Tile

end Cert.KernelIdeal.Pay

end
-- ==== Proof.Blk.lean ====
/-
  What one grid point's body leaves in its two output blocks, as functions of the block index.
-/
module

public import proofs.«01_k».proof.Proof.PayK
public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Blk

open Idealize.ShloMosaic Idealize.ShloMosaic.TcCoe Idealize.SL.Sem Cert.KernelIdeal Cert.KernelIdeal.Gen

section Block

variable (x0 : Vec Ideal S1x512x1536 .bf16) (x1 : Vec Ideal S1x512x1536 .fp8e4m3) (x2 : Vec Ideal S1x512x128 .f32)
  (x3 : Vec Ideal S1536x1536 .fp8e4m3) (x4 x5 x6 x7 : Vec Ideal S1x1536 .f32)

/-- Row `r` of a block's output. -/
def orow (r : Fin 512) (c : Fin 1536) : EReal :=
  Row.outv (x0 (ix3 0 r c)) (fun k => x1 (ix3 0 r k)) (fun k => x3 (ix2 k c)) (x2 (ix3 0 r 0)) (x4 (ix2 0 c)) (x5 (ix2 0 c))

/-- Row `r` of a block's codes. -/
def crow (r : Fin 512) (c : Fin 1536) : EReal :=
  Row.code (Row.norm (orow x0 x1 x2 x3 x4 x5 r) (fun k => x6 (ix2 0 k)) (fun k => x7 (ix2 0 k))) c

/-- A block's output. -/
def oblk : Vec Ideal S1x512x1536 .bf16 := fun y => orow x0 x1 x2 x3 x4 x5 (y 1) (y 2)

/-- A block's codes. -/
def cblk : Vec Ideal S1x512x1536 .fp8e4m3 := fun y => crow x0 x1 x2 x3 x4 x5 x6 x7 (y 1) (y 2)

end Block

/-- Row `r`, column `c` of a tile is row `o + r`, column `c` of the block. -/
theorem emb3 {n1 n2 m1 o : Nat} {off : Fin 3 → Nat} (ho : off = ![0, o, 0])
    (inb : ∀ a, off a + (![1, m1, n2] : Fin 3 → Nat) a ≤ (⟨3, ![1, n1, n2]⟩ : Shape).size a)
    (r : Fin m1) (c : Fin n2) (R : Fin n1) (hR : R.val = o + r.val) :
    (Rect.unit (s := ⟨3, ![1, n1, n2]⟩) off ![1, m1, n2] inb).emb (ix3 0 r c) = ix3 0 R c := by
  subst ho
  funext a
  apply Fin.ext
  match a with
  | ⟨0, _⟩ => rfl
  | ⟨1, _⟩ => exact (congrArg (o + ·) (Nat.one_mul r.val)).trans hR.symm
  | ⟨2, _⟩ => exact (Nat.zero_add _).trans (Nat.one_mul c.val)

theorem hz : (![0, 0] : Fin 2 → Nat) = fun _ => 0 := funext fun a => by fin_cases a <;> rfl

theorem ix3_cover {m1 n2 : Nat} (x : (⟨3, ![1, m1, n2]⟩ : Shape).Idx) : ∃ (r : Fin m1) (c : Fin n2), x = ix3 0 r c :=
  ⟨x 1, x 2, by
    funext a
    match a with
    | ⟨0, _⟩ => exact Fin.ext (by have : (x 0).val < 1 := (x 0).isLt; show (x 0).val = 0; omega)
    | ⟨1, _⟩ => rfl
    | ⟨2, _⟩ => rfl⟩

theorem tile_row (k : Fin k0_t1_loop.trips) (r : Fin 128) : 128 * k.val + r.val < 512 := by
  have hk : k.val < 4 := Nat.lt_of_lt_of_le k.isLt k0_t1_abs.2.1
  omega

theorem tile_orow (x0 : Vec Ideal S1x512x1536 .bf16) (x1 : Vec Ideal S1x512x1536 .fp8e4m3) (x2 : Vec Ideal S1x512x128 .f32)
    (x3 : Vec Ideal S1536x1536 .fp8e4m3) (x4 x5 : Vec Ideal S1x1536 .f32) (k : Fin k0_t1_loop.trips) (r : Fin 128) (c : Fin 1536) :
    Pay.orow (View.ld x1 (Rect.unit (s := S1x512x1536) (k0_off1 k) S1x128x1536.size (k0_off1_inb k))) x3
      (View.ld x2 (Rect.unit (s := S1x512x128) (k0_off2 k) S1x128x128.size (k0_off2_inb k))) x4 x5
      (View.ld x0 (Rect.unit (s := S1x512x1536) (k0_off1 k) S1x128x1536.size (k0_off1_inb k))) r c
    = orow x0 x1 x2 x3 x4 x5 ⟨128 * k.val + r.val, tile_row k r⟩ c := by
  have h1 : ∀ c, (Rect.unit (s := S1x512x1536) (k0_off1 k) S1x128x1536.size (k0_off1_inb k)).emb (ix3 0 r c)
      = ix3 0 ⟨128 * k.val + r.val, tile_row k r⟩ c := fun c => emb3 (k0_off1_eq k) _ r c _ rfl
  have h2 : (Rect.unit (s := S1x512x128) (k0_off2 k) S1x128x128.size (k0_off2_inb k)).emb (ix3 0 r 0)
      = ix3 0 ⟨128 * k.val + r.val, tile_row k r⟩ 0 := emb3 (k0_off2_eq k) _ r 0 _ rfl
  unfold Pay.orow orow
  show Row.outv (x0 ((Rect.unit (s := S1x512x1536) (k0_off1 k) S1x128x1536.size (k0_off1_inb k)).emb (ix3 0 r c)))
    (fun k' => x1 ((Rect.unit (s := S1x512x1536) (k0_off1 k) S1x128x1536.size (k0_off1_inb k)).emb (ix3 0 r k'))) _
    (x2 ((Rect.unit (s := S1x512x128) (k0_off2 k) S1x128x128.size (k0_off2_inb k)).emb (ix3 0 r 0))) _ _ = _
  simp only [h1, h2]

section Trip

variable (c : Dev nD) (i : grid0.Coords) (arg1 : Memref sig .tc .vmem S1x512x1536 .bf16) (harg1 : arg1.IsWhole) (arg2 : Memref sig .tc .vmem S1x512x1536 .fp8e4m3) (harg2 : arg2.IsWhole) (arg3 : Memref sig .tc .vmem S1x512x128 .f32) (harg3 : arg3.IsWhole) (arg4 : Memref sig .tc .vmem S1536x1536 .fp8e4m3) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x512x1536 .bf16) (harg9 : arg9.IsWhole) (arg10 : Memref sig .tc .vmem S1x512x1536 .fp8e4m3) (harg10 : arg10.IsWhole) (arg11 : Memref sig .tc .vmem S512x128 .f32) (harg11 : arg11.IsWhole) (x0 : Vec Ideal S1x512x1536 .bf16) (x1 : Vec Ideal S1x512x1536 .fp8e4m3) (x2 : Vec Ideal S1x512x128 .f32) (x3 : Vec Ideal S1536x1536 .fp8e4m3) (x4 : Vec Ideal S1x1536 .f32) (x5 : Vec Ideal S1x1536 .f32) (x6 : Vec Ideal S1x1536 .f32) (x7 : Vec Ideal S1x1536 .f32)

theorem trip8 (k : Fin k0_t1_loop.trips) : ∀ p ∈ (tripL_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) k).1, ∀ x : p.1.shape.Idx,
    p.2 x = oblk x0 x1 x2 x3 x4 x5 (p.1.emb x) := by
  intro p hp x
  dsimp only [tripL_k0_t1] at hp
  unfold trip_k0_t1 at hp
  dsimp only at hp
  rw [List.mem_singleton] at hp
  subst hp
  obtain ⟨r, c, rfl⟩ := ix3_cover x
  dsimp only
  rw [emb3 (k0_off1_eq k) _ r c ⟨128 * k.val + r.val, tile_row k r⟩ rfl]
  refine (Pay.pay5_apply ..).trans ?_
  simp only [View.readAt_eq_ld, harg1.read_unread, harg2.read_unread, harg3.read_unread, harg4.read_unread, harg5.read_unread,
    harg6.read_unread, harg7.read_unread, harg8.read_unread, View.ld_unit_zero (S := S1536x1536) hz, View.ld_unit_zero (S := S1x1536) hz]
  exact tile_orow x0 x1 x2 x3 x4 x5 k r c

theorem trip9 (k : Fin k0_t1_loop.trips) : ∀ p ∈ (tripL_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) k).2.1, ∀ x : p.1.shape.Idx,
    p.2 x = cblk x0 x1 x2 x3 x4 x5 x6 x7 (p.1.emb x) := by
  intro p hp x
  dsimp only [tripL_k0_t1] at hp
  unfold trip_k0_t1 at hp
  dsimp only at hp
  rw [List.mem_singleton] at hp
  subst hp
  obtain ⟨r, c, rfl⟩ := ix3_cover x
  dsimp only
  rw [emb3 (k0_off1_eq k) _ r c ⟨128 * k.val + r.val, tile_row k r⟩ rfl]
  sl_unfold_run_names
  simp only [View.readAt_eq_ld, harg1.read_unread, harg2.read_unread, harg3.read_unread, harg4.read_unread, harg5.read_unread,
    harg6.read_unread, harg7.read_unread, harg8.read_unread, View.ld_unit_zero (S := S1536x1536) hz, View.ld_unit_zero (S := S1x1536) hz]
  refine (Pay.q_apply ..).trans ?_
  unfold Pay.nrow
  have h := funext fun c => tile_orow x0 x1 x2 x3 x4 x5 k r c
  show Row.code (Row.norm (fun c => _) _ _) c = _
  rw [h]
  rfl

theorem pieces8 : ∀ n : ℕ, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) n).1, ∀ x : p.1.shape.Idx,
    p.2 x = oblk x0 x1 x2 x3 x4 x5 (p.1.emb x)
  | 0, _ => by
    intro p hp
    rw [pb_k0_t1.eq_1] at hp
    exact absurd hp List.not_mem_nil
  | n + 1, hn => by
    intro p hp x
    have e := pb_k0_t1_succ (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) ⟨n, hn⟩
    rw [show n + 1 = (⟨n, hn⟩ : Fin k0_t1_loop.trips).val + 1 from rfl, e] at hp
    dsimp only at hp
    rcases List.mem_append.mp hp with h | h
    · exact trip8 c i arg1 harg1 arg2 harg2 arg3 harg3 arg4 harg4 arg5 harg5 arg6 harg6 arg7 harg7 arg8 harg8 arg9 harg9 arg10 harg10 arg11 harg11 x0 x1 x2 x3 x4 x5 x6 x7 ⟨n, hn⟩ p h x
    · exact pieces8 n (Nat.le_of_succ_le hn) p h x

/-- What a point's body leaves in output block 8. -/
theorem out8_eq : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 = oblk x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  funext y
  refine View.canon_apply_of_pieces _ _ ?_ y (cover0_A_8 c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A
  dsimp only
  exact pieces8 c i arg1 harg1 arg2 harg2 arg3 harg3 arg4 harg4 arg5 harg5 arg6 harg6 arg7 harg7 arg8 harg8 arg9 harg9 arg10 harg10 arg11 harg11 x0 x1 x2 x3 x4 x5 x6 x7 _ (Nat.le_refl _)

theorem pieces9 : ∀ n : ℕ, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) n).2.1, ∀ x : p.1.shape.Idx,
    p.2 x = cblk x0 x1 x2 x3 x4 x5 x6 x7 (p.1.emb x)
  | 0, _ => by
    intro p hp
    rw [pb_k0_t1.eq_1] at hp
    exact absurd hp List.not_mem_nil
  | n + 1, hn => by
    intro p hp x
    have e := pb_k0_t1_succ (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (harg8.unread x7) ⟨n, hn⟩
    rw [show n + 1 = (⟨n, hn⟩ : Fin k0_t1_loop.trips).val + 1 from rfl, e] at hp
    dsimp only at hp
    rcases List.mem_append.mp hp with h | h
    · exact trip9 c i arg1 harg1 arg2 harg2 arg3 harg3 arg4 harg4 arg5 harg5 arg6 harg6 arg7 harg7 arg8 harg8 arg9 harg9 arg10 harg10 arg11 harg11 x0 x1 x2 x3 x4 x5 x6 x7 ⟨n, hn⟩ p h x
    · exact pieces9 n (Nat.le_of_succ_le hn) p h x

/-- What a point's body leaves in output block 9. -/
theorem out9_eq : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 = cblk x0 x1 x2 x3 x4 x5 x6 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7)]
  funext y
  refine View.canon_apply_of_pieces _ _ ?_ y (cover0_A_9 c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A
  dsimp only
  exact pieces9 c i arg1 harg1 arg2 harg2 arg3 harg3 arg4 harg4 arg5 harg5 arg6 harg6 arg7 harg7 arg8 harg8 arg9 harg9 arg10 harg10 arg11 harg11 x0 x1 x2 x3 x4 x5 x6 x7 _ (Nat.le_refl _)

end Trip

end Cert.KernelIdeal.Blk

end
-- ==== Proof.Spec.lean ====
/-
  The two results as functions of the argument arrays.
-/
module

public import proofs.«01_k».proof.Proof.Row
public import Idealize.ShloMosaic.Lib.Pointwise

@[expose] public section

noncomputable section

namespace Cert.Spec

open Idealize.ShloMosaic

variable (x q : (⟨3, ![3, 512, 1536]⟩ : Shape).Idx → EReal) (s : (⟨3, ![3, 512, 128]⟩ : Shape).Idx → EReal)
  (w : (⟨2, ![1536, 1536]⟩ : Shape).Idx → EReal) (ws b g d : (⟨1, ![1536]⟩ : Shape).Idx → EReal)

/-- Row `(t, r)` of the output. -/
def orow (t : Fin 3) (r : Fin 512) (c : Fin 1536) : EReal :=
  Row.outv (x (ix3 t r c)) (fun k => q (ix3 t r k)) (fun k => w (ix2 k c)) (s (ix3 t r 0)) (ws (ix1 c)) (b (ix1 c))

/-- Row `(t, r)` of the codes of the normed output. -/
def crow (t : Fin 3) (r : Fin 512) (c : Fin 1536) : EReal :=
  Row.code (Row.norm (orow x q s w ws b t r) (fun k => g (ix1 k)) (fun k => d (ix1 k))) c

/-- The output. -/
def out (y : (⟨3, ![3, 512, 1536]⟩ : Shape).Idx) : EReal := orow x q s w ws b (y 0) (y 1) (y 2)

/-- The codes of the normed output. -/
def codes (y : (⟨3, ![3, 512, 1536]⟩ : Shape).Idx) : EReal := crow x q s w ws b g d (y 0) (y 1) (y 2)

end Cert.Spec

end
-- ==== Proof.ArrK.lean ====
/-
  The kernel's two result arrays as functions of its arguments.
-/
module

public import proofs.«01_k».proof.Proof.Blk
public import proofs.«01_k».proof.Proof.Spec
public import Idealize.ShloMosaic.Lib.Pipeline.ValueKit
public import Idealize.ShloMosaic.Lib.Claim

@[expose] public section

set_option maxRecDepth 16384

noncomputable section

namespace Cert.KernelIdeal.Arr

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- Where each window's block lies. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0] ∧ win0_7.index t = ![0, 0]
    ∧ win0_8.index t = ![t.val, 0, 0] ∧ win0_9.index t = ![t.val, 0, 0] := by
  decide +kernel

theorem lt3 (t : Fin cfg0.N) : t.val < 3 := Nat.lt_of_lt_of_eq t.isLt N_0

theorem blk0 (t : Fin cfg0.N) (r : Fin 512) (k : Fin 1536) :
    iblk m c 0 t (ix3 0 r k) = m ((c : Thread nD τ).loc main_arg0) (ix3 ⟨t.val, lt3 t⟩ r k) := by
  blk_ext [iblk, V_main_arg0, idx t]

theorem blk1 (t : Fin cfg0.N) (r : Fin 512) (k : Fin 1536) :
    iblk m c 1 t (ix3 0 r k) = m ((c : Thread nD τ).loc main_arg1) (ix3 ⟨t.val, lt3 t⟩ r k) := by
  blk_ext [iblk, V_main_arg1, idx t]

theorem blk2 (t : Fin cfg0.N) (r : Fin 512) (k : Fin 128) :
    iblk m c 2 t (ix3 0 r k) = m ((c : Thread nD τ).loc main_arg2) (ix3 ⟨t.val, lt3 t⟩ r k) := by
  blk_ext [iblk, V_main_arg2, idx t]

theorem blk3 (t : Fin cfg0.N) (r : Fin 1536) (k : Fin 1536) :
    iblk m c 3 t (ix2 r k) = m ((c : Thread nD τ).loc main_arg3) (ix2 r k) := by
  blk_ext [iblk, V_main_arg3, idx t]

theorem blk4 (t : Fin cfg0.N) (k : Fin 1536) :
    iblk m c 4 t (ix2 0 k) = m ((c : Thread nD τ).loc main_arg4) (ix1 k) := by
  blk_ext! [iblk, idx t]

theorem blk5 (t : Fin cfg0.N) (k : Fin 1536) :
    iblk m c 5 t (ix2 0 k) = m ((c : Thread nD τ).loc main_arg5) (ix1 k) := by
  blk_ext! [iblk, idx t]

theorem blk6 (t : Fin cfg0.N) (k : Fin 1536) :
    iblk m c 6 t (ix2 0 k) = m ((c : Thread nD τ).loc main_arg6) (ix1 k) := by
  blk_ext! [iblk, idx t]

theorem blk7 (t : Fin cfg0.N) (k : Fin 1536) :
    iblk m c 7 t (ix2 0 k) = m ((c : Thread nD τ).loc main_arg7) (ix1 k) := by
  blk_ext! [iblk, idx t]

theorem orow_eq (t : Fin cfg0.N) (r : Fin 512) :
    Blk.orow (iblk m c 0 t) (iblk m c 1 t) (iblk m c 2 t) (iblk m c 3 t) (iblk m c 4 t) (iblk m c 5 t) r
      = Spec.orow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val, lt3 t⟩ r := by
  funext k
  unfold Blk.orow Spec.orow
  simp only [blk0, blk1, blk2, blk3, blk4, blk5]

theorem crow_eq (t : Fin cfg0.N) (r : Fin 512) (k : Fin 1536) :
    Blk.crow (iblk m c 0 t) (iblk m c 1 t) (iblk m c 2 t) (iblk m c 3 t) (iblk m c 4 t) (iblk m c 5 t) (iblk m c 6 t) (iblk m c 7 t) r k
      = Spec.crow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨t.val, lt3 t⟩ r k := by
  unfold Blk.crow Spec.crow
  rw [orow_eq]
  simp only [blk6, blk7]

theorem emb8 (t : Fin cfg0.N) (y : S1x512x1536.Idx) :
    ((View.whole main_v4_0).slice (win0_8.rect t)).emb y = ix3 (⟨t.val, lt3 t⟩ : Fin 3) (y 1 : Fin 512) (y 2 : Fin 1536) := by
  blk_ext [idx t]

theorem emb9 (t : Fin cfg0.N) (y : S1x512x1536.Idx) :
    ((View.whole main_v4_1).slice (win0_9.rect t)).emb y = ix3 (⟨t.val, lt3 t⟩ : Fin 3) (y 1 : Fin 512) (y 2 : Fin 1536) := by
  blk_ext [idx t]

/-- The kernel's output array. -/
theorem final8 : (dats m 0 c).arrAt 8 cfg0.N = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  unfold outsAt0
  dsimp only
  rw [Blk.out8_eq, emb8]
  exact congrFun (orow_eq m c t _) _

/-- The kernel's code array. -/
theorem final9 : (dats m 0 c).arrAt 9 cfg0.N = Spec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  unfold outsAt0
  dsimp only
  rw [Blk.out9_eq, emb9]
  exact crow_eq m c t _ _

end Cert.KernelIdeal.Arr

end
-- ==== Proof.Fold3.lean ====
/-
  The greatest and the least entry along the last axis of a rank-three array.
-/
module

public import Idealize.ShloMosaic.Lib.Pointwise
public import Idealize.ShloMosaic.PureOps.Ideal.Laws

@[expose] public section

noncomputable section

namespace Cert.Fold3

open Idealize.ShloMosaic

variable {n0 n1 n2 : Nat}

/-- The source index over `(t, r)` with last coordinate `k` is `(t, r, k)`. -/
theorem lift_eq (h : (⟨3, ![n0, n1, n2]⟩ : Shape).Reduces [(2 : Fin 3)] ⟨2, ![n0, n1]⟩) (t : Fin n0) (r : Fin n1) (k : Fin n2) :
    h.lift (ix2 t r) k = ix3 t r k := by
  funext c
  apply Fin.ext
  refine (h.lift_val (ix2 t r) k c).trans ?_
  match c with
  | ⟨0, _⟩ => rfl
  | ⟨1, _⟩ => rfl
  | ⟨2, _⟩ => rfl

theorem max_apply (src : FVec Ideal ⟨3, ![n0, n1, n2]⟩ .f32) (acc : BitVec 32)
    (h : (⟨3, ![n0, n1, n2]⟩ : Shape).Reduces [(2 : Fin 3)] ⟨2, ![n0, n1]⟩) (hφ : FKind.Formats .f32)
    (hacc : acc = FKind.maximumf.neutral .f32 hφ) (t : Fin n0) (r : Fin n1) :
    multiReduction .maximumf [(2 : Fin 3)] ⟨2, ![n0, n1]⟩ src acc h hφ hacc (ix2 t r)
      = Finset.univ.fold max (Ideal.ofBits .f32 acc) (fun k : Fin n2 => src (ix3 t r k)) :=
  (Ideal.multiReduction_maximumf_single src acc h hφ hacc (ix2 t r)).trans
    (congrArg (fun f => Finset.univ.fold max (Ideal.ofBits .f32 acc) f) (funext fun k => congrArg src (lift_eq h t r k)))

theorem min_apply (src : FVec Ideal ⟨3, ![n0, n1, n2]⟩ .f32) (acc : BitVec 32)
    (h : (⟨3, ![n0, n1, n2]⟩ : Shape).Reduces [(2 : Fin 3)] ⟨2, ![n0, n1]⟩) (hφ : FKind.Formats .f32)
    (hacc : acc = FKind.minimumf.neutral .f32 hφ) (t : Fin n0) (r : Fin n1) :
    multiReduction .minimumf [(2 : Fin 3)] ⟨2, ![n0, n1]⟩ src acc h hφ hacc (ix2 t r)
      = Finset.univ.fold min (Ideal.ofBits .f32 acc) (fun k : Fin n2 => src (ix3 t r k)) :=
  ((multiReduction_minimumf_eq_fold src acc h hφ hacc (ix2 t r)).trans (h.fold_filter_drop_single _ _ src (ix2 t r))).trans
    (congrArg (fun f => Finset.univ.fold min (Ideal.ofBits .f32 acc) f) (funext fun k => congrArg src (lift_eq h t r k)))

end Cert.Fold3
-- ==== Proof.PayR.lean ====
/-
  The reference's arithmetic at an index of the whole arrays.
-/
module

public import proofs.«01_k».proof.Proof.Row
public import proofs.«01_k».proof.Proof.Fold3
public import proofs.«01_k».proof.Proof.Gen.ReferenceIdeal.Skeleton
public import Idealize.ShloMosaic.Lib.Pointwise

@[expose] public section

set_option maxRecDepth 16384

noncomputable section

namespace Cert.ReferenceIdeal.Pay

open Idealize.ShloMosaic Cert.ReferenceIdeal Cert.ReferenceIdeal.Gen

theorem least : ∀ k : Fin 246, (IntOp.subi (BitVec.ofNat 32 k.val) 125#32).toInt = (k.val : ℤ) - 125 := by decide +kernel

theorem power (k : Fin 246) : Ideal.exp2 ((((IntOp.subi (BitVec.ofNat 32 k.val) 125#32).toInt : ℝ) : EReal))
    = ((Scale.two ((k.val : ℤ) - 125) : ℝ) : EReal) := by
  rw [Ideal.exp2_coe, least]
  unfold Scale.two
  congr 1
  exact Real.rpow_intCast 2 _

/-- The reference's choice of scale, as printed, is `Scale.scale`. -/
theorem select_scale (R : EReal) :
    Scalar.select (IntOp.ori (BitVec.ofBool (decide (R < Ideal.ofBits .f32 0x00800000#32)))
        (BitVec.ofBool (decide (R = Ideal.ofBits .f32 0x7F800000#32)))) (1 : EReal)
      (Finset.fold min (Ideal.ofBits .f32 0x7F800000#32) (fun x : Fin 246 =>
        if R < FloatOps.exp2 (F := Ideal) (φ := .f32) (FloatOps.sitofp .f32 (IntOp.subi (BitVec.ofNat 32 x.val) 125#32))
        then FloatOps.exp2 (F := Ideal) (φ := .f32) (FloatOps.sitofp .f32 (IntOp.subi (BitVec.ofNat 32 x.val) 125#32))
        else Ideal.ofBits .f32 0x7B800000#32) Finset.univ) = Scale.scale R := by
  have e1 : Ideal.ofBits .f32 0x00800000#32 = ((Scale.two (-126) : ℝ) : EReal) :=
    (show Ideal.ofBits .f32 0x00800000#32 = Scale.F 1 by
      have h : 0x00800000#32 = BitVec.ofNat 32 1 <<< 23 := by decide
      rw [h]; rfl).trans
      ((Scale.F_eq (by norm_num) (by norm_num)).trans (by norm_num))
  have e2 : Ideal.ofBits .f32 0x7F800000#32 = ⊤ :=
    (show Ideal.ofBits .f32 0x7F800000#32 = Scale.F 255 by
      have h : 0x7F800000#32 = BitVec.ofNat 32 255 <<< 23 := by decide
      rw [h]; rfl).trans Scale.F_top
  have e3 : Ideal.ofBits .f32 0x7B800000#32 = ((Scale.two 120 : ℝ) : EReal) :=
    (show Ideal.ofBits .f32 0x7B800000#32 = Scale.F 247 by
      have h : 0x7B800000#32 = BitVec.ofNat 32 247 <<< 23 := by decide
      rw [h]; rfl).trans
      ((Scale.F_eq (by norm_num) (by norm_num)).trans (by norm_num))
  have e4 : ∀ x : Fin 246, FloatOps.exp2 (F := Ideal) (φ := .f32)
      (FloatOps.sitofp .f32 (IntOp.subi (BitVec.ofNat 32 x.val) 125#32)) = ((Scale.two ((x.val : ℤ) - 125) : ℝ) : EReal) := power
  simp only [e1, e2, e3, e4]
  unfold Scale.scale Scalar.select
  generalize Finset.fold min (⊤ : EReal) _ _ = Z
  by_cases h1 : R < ((Scale.two (-126) : ℝ) : EReal) <;> by_cases h2 : R = ⊤ <;>
    simp [h1, h2, IntOp.ori]

/-- The layer norm, as printed. -/
def normV (v22 : FVec Ideal S3x512x1536 .f32) (v26 : FVec Ideal S3x512x1 .f32) (v33 : FVec Ideal S3x512x1 .f32) (cst_22 : Ideal .f32)
    (v43 : Vec Ideal S1x1x1536 .f32) (v47 : Vec Ideal S1x1x1536 .f32) : FVec Ideal S3x512x1536 .f32 :=
  have v34 : FVec Ideal S3x512x1 .f32 := broadcast S3x512x1 cst_22
  have v35 : FVec Ideal S3x512x1 .f32 := divf v33 v34
  have v36 : FVec Ideal S3x512x1536 .f32 := broadcastTo S3x512x1536 v26 broadcasts_S3x512x1_S3x512x1536
  have v37 : FVec Ideal S3x512x1536 .f32 := subf v22 v36
  have cst_23 : Ideal .f32 := Scalar.ofBits .f32 0x3727C5AC#32
  have v38 : FVec Ideal S3x512x1 .f32 := broadcast S3x512x1 cst_23
  have v39 : FVec Ideal S3x512x1 .f32 := addf v35 v38
  have v40 : FVec Ideal S3x512x1 .f32 := rsqrt v39
  have v41 : FVec Ideal S3x512x1536 .f32 := broadcastTo S3x512x1536 v40 broadcasts_S3x512x1_S3x512x1536
  have v42 : FVec Ideal S3x512x1536 .f32 := mulf v37 v41
  have v44 : FVec Ideal S1x1x1536 .f32 := shapeCast S1x1x1536 v43 shapeCasts_S1x1x1536_S1x1x1536
  have v45 : FVec Ideal S3x512x1536 .f32 := broadcastTo S3x512x1536 v44 broadcasts_S1x1x1536_S3x512x1536
  have v46 : FVec Ideal S3x512x1536 .f32 := mulf v42 v45
  have v48 : FVec Ideal S1x1x1536 .f32 := shapeCast S1x1x1536 v47 shapeCasts_S1x1x1536_S1x1x1536
  have v49 : FVec Ideal S3x512x1536 .f32 := broadcastTo S3x512x1536 v48 broadcasts_S1x1x1536_S3x512x1536
  have v50 : FVec Ideal S3x512x1536 .f32 := addf v46 v49
  v50

/-- A row's greatest magnitude over 448, as printed. -/
def rmaxV (v50 : FVec Ideal S3x512x1536 .f32) : FVec Ideal S3x512x1 .f32 :=
  have v51 : FVec Ideal S3x512x1536 .f32 := absf v50
  have v52 : FVec Ideal S3x512 .f32 := multiReduction .maximumf [2] S3x512 v51 0xFF800000#32 reduces_S3x512x1536_S3x512 (.inl rfl) rfl
  have v53 : FVec Ideal S3x512x1 .f32 := shapeCast S3x512x1 v52 shapeCasts_S3x512_S3x512x1
  have cst_31 : Ideal .f32 := Scalar.ofBits .f32 0x3B124925#32
  have v54 : FVec Ideal S3x512x1 .f32 := broadcast S3x512x1 cst_31
  have v55 : FVec Ideal S3x512x1 .f32 := mulf v53 v54
  v55

/-- The division by the scale, as printed. -/
def divV (v50 : FVec Ideal S3x512x1536 .f32) (v55 : FVec Ideal S3x512x1 .f32) : FVec Ideal S3x512x1536 .f32 :=
  have v56 : IVec S1x1x246 32 := iota .tc S1x1x246 32 [2] iota_S1x1x246_d2_w32
  have v57 : IVec S1x1x246 32 := broadcast S1x1x246 125#32
  have v58 : IVec S1x1x246 32 := subi v56 v57
  have v59 : FVec Ideal S1x1x246 .f32 := sitofp .f32 v58
  have v60 : FVec Ideal S1x1x246 .f32 := exp2 v59
  have v61 : FVec Ideal S3x512x246 .f32 := broadcastTo S3x512x246 v55 broadcasts_S3x512x1_S3x512x246
  have v62 : FVec Ideal S3x512x246 .f32 := broadcastTo S3x512x246 v60 broadcasts_S1x1x246_S3x512x246
  have v63 : IVec S3x512x246 1 := cmpf .olt v61 v62
  have cst_32 : Ideal .f32 := Scalar.ofBits .f32 0x7B800000#32
  have v64 : FVec Ideal S1x1x246 .f32 := shapeCast S1x1x246 v60 shapeCasts_S1x1x246_S1x1x246
  have v65 : FVec Ideal S3x512x246 .f32 := broadcastTo S3x512x246 v64 broadcasts_S1x1x246_S3x512x246
  have v66 : FVec Ideal S3x512x246 .f32 := broadcast S3x512x246 cst_32
  have v67 : FVec Ideal S3x512x246 .f32 := select v63 v65 v66
  have v68 : FVec Ideal S3x512 .f32 := multiReduction .minimumf [2] S3x512 v67 0x7F800000#32 reduces_S3x512x246_S3x512 (.inl rfl) rfl
  have v69 : FVec Ideal S3x512x1 .f32 := shapeCast S3x512x1 v68 shapeCasts_S3x512_S3x512x1
  have cst_34 : Ideal .f32 := Scalar.ofBits .f32 0x00800000#32
  have v70 : FVec Ideal S3x512x1 .f32 := broadcast S3x512x1 cst_34
  have v71 : IVec S3x512x1 1 := cmpf .olt v55 v70
  have cst_35 : Ideal .f32 := Scalar.ofBits .f32 0x7F800000#32
  have v72 : FVec Ideal S3x512x1 .f32 := broadcast S3x512x1 cst_35
  have v73 : IVec S3x512x1 1 := cmpf .oeq v55 v72
  have v74 : IVec S3x512x1 1 := ori v71 v73
  have cst_36 : Ideal .f32 := Scalar.ofBits .f32 0x3F800000#32
  have v75 : FVec Ideal S3x512x1 .f32 := broadcast S3x512x1 cst_36
  have v76 : FVec Ideal S3x512x1 .f32 := select v74 v75 v69
  have v77 : FVec Ideal S3x512x1536 .f32 := broadcastTo S3x512x1536 v76 broadcasts_S3x512x1_S3x512x1536
  have v78 : FVec Ideal S3x512x1536 .f32 := divf v50 v77
  v78

/-- A row's greatest magnitude, as printed. -/
def maxV (v50 : FVec Ideal S3x512x1536 .f32) : FVec Ideal S3x512 .f32 :=
  multiReduction .maximumf [2] S3x512 (absf v50) 0xFF800000#32 reduces_S3x512x1536_S3x512 (.inl rfl) rfl

theorem maxV_apply (v50 : FVec Ideal S3x512x1536 .f32) (t : Fin 3) (r : Fin 512) :
    maxV v50 (ix2 t r) = Finset.univ.fold max (Ideal.ofBits .f32 0xFF800000#32)
      (fun k : Fin 1536 => FloatOps.absf (F := Ideal) (φ := .f32) (v50 (ix3 t r k))) :=
  Fold3.max_apply (absf v50) _ _ _ _ t r

theorem rmaxV_eq (v50 : FVec Ideal S3x512x1536 .f32) : rmaxV v50
    = mulf (shapeCast S3x512x1 (maxV v50) shapeCasts_S3x512_S3x512x1) (broadcast S3x512x1 (Scalar.ofBits .f32 0x3B124925#32)) := rfl

theorem scaled_apply (m : FVec Ideal S3x512 .f32) (t : Fin 3) (r : Fin 512) :
    (mulf (shapeCast S3x512x1 m shapeCasts_S3x512_S3x512x1) (broadcast S3x512x1 (Scalar.ofBits .f32 0x3B124925#32)) : FVec Ideal S3x512x1 .f32)
      (ix3 t r 0) = m (ix2 t r) * Ideal.ofBits .f32 0x3B124925#32 := by
  pointwise

theorem rmaxV_apply (v50 : FVec Ideal S3x512x1536 .f32) (t : Fin 3) (r : Fin 512) :
    rmaxV v50 (ix3 t r 0) = Row.rmax (fun k => v50 (ix3 t r k)) := by
  rw [rmaxV_eq, scaled_apply, maxV_apply]
  rfl

/-- The least power above, as printed. -/
def minV (v67 : FVec Ideal S3x512x246 .f32) : FVec Ideal S3x512 .f32 :=
  multiReduction .minimumf [2] S3x512 v67 0x7F800000#32 reduces_S3x512x246_S3x512 (.inl rfl) rfl

theorem minV_apply (v67 : FVec Ideal S3x512x246 .f32) (t : Fin 3) (r : Fin 512) :
    minV v67 (ix2 t r) = Finset.univ.fold min (Ideal.ofBits .f32 0x7F800000#32) (fun k : Fin 246 => v67 (ix3 t r k)) :=
  Fold3.min_apply v67 _ _ _ _ t r

/-- The entries the minimum runs over, as printed. -/
def candV (v55 : FVec Ideal S3x512x1 .f32) : FVec Ideal S3x512x246 .f32 :=
  have v56 : IVec S1x1x246 32 := iota .tc S1x1x246 32 [2] iota_S1x1x246_d2_w32
  have v57 : IVec S1x1x246 32 := broadcast S1x1x246 125#32
  have v58 : IVec S1x1x246 32 := subi v56 v57
  have v59 : FVec Ideal S1x1x246 .f32 := sitofp .f32 v58
  have v60 : FVec Ideal S1x1x246 .f32 := exp2 v59
  have v61 : FVec Ideal S3x512x246 .f32 := broadcastTo S3x512x246 v55 broadcasts_S3x512x1_S3x512x246
  have v62 : FVec Ideal S3x512x246 .f32 := broadcastTo S3x512x246 v60 broadcasts_S1x1x246_S3x512x246
  have v63 : IVec S3x512x246 1 := cmpf .olt v61 v62
  have cst_32 : Ideal .f32 := Scalar.ofBits .f32 0x7B800000#32
  have v64 : FVec Ideal S1x1x246 .f32 := shapeCast S1x1x246 v60 shapeCasts_S1x1x246_S1x1x246
  have v65 : FVec Ideal S3x512x246 .f32 := broadcastTo S3x512x246 v64 broadcasts_S1x1x246_S3x512x246
  have v66 : FVec Ideal S3x512x246 .f32 := broadcast S3x512x246 cst_32
  have v67 : FVec Ideal S3x512x246 .f32 := select v63 v65 v66
  v67

theorem candV_apply (v55 : FVec Ideal S3x512x1 .f32) (t : Fin 3) (r : Fin 512) (x : Fin 246) :
    candV v55 (ix3 t r x) =
      if v55 (ix3 t r 0) < FloatOps.exp2 (F := Ideal) (φ := .f32) (FloatOps.sitofp .f32 (IntOp.subi (BitVec.ofNat 32 x.val) 125#32))
      then FloatOps.exp2 (F := Ideal) (φ := .f32) (FloatOps.sitofp .f32 (IntOp.subi (BitVec.ofNat 32 x.val) 125#32))
      else Ideal.ofBits .f32 0x7B800000#32 := by
  pointwise [candV]

/-- The scale, as printed. -/
def sclV (v55 : FVec Ideal S3x512x1 .f32) (v68 : FVec Ideal S3x512 .f32) : FVec Ideal S3x512x1 .f32 :=
  have v69 : FVec Ideal S3x512x1 .f32 := shapeCast S3x512x1 v68 shapeCasts_S3x512_S3x512x1
  have cst_34 : Ideal .f32 := Scalar.ofBits .f32 0x00800000#32
  have v70 : FVec Ideal S3x512x1 .f32 := broadcast S3x512x1 cst_34
  have v71 : IVec S3x512x1 1 := cmpf .olt v55 v70
  have cst_35 : Ideal .f32 := Scalar.ofBits .f32 0x7F800000#32
  have v72 : FVec Ideal S3x512x1 .f32 := broadcast S3x512x1 cst_35
  have v73 : IVec S3x512x1 1 := cmpf .oeq v55 v72
  have v74 : IVec S3x512x1 1 := ori v71 v73
  have cst_36 : Ideal .f32 := Scalar.ofBits .f32 0x3F800000#32
  have v75 : FVec Ideal S3x512x1 .f32 := broadcast S3x512x1 cst_36
  have v76 : FVec Ideal S3x512x1 .f32 := select v74 v75 v69
  v76

theorem sclV_apply (v55 : FVec Ideal S3x512x1 .f32) (v68 : FVec Ideal S3x512 .f32) (t : Fin 3) (r : Fin 512) :
    sclV v55 v68 (ix3 t r 0) = Scalar.select (IntOp.ori (BitVec.ofBool (decide (v55 (ix3 t r 0) < Ideal.ofBits .f32 0x00800000#32)))
        (BitVec.ofBool (decide (v55 (ix3 t r 0) = Ideal.ofBits .f32 0x7F800000#32)))) (1 : EReal) (v68 (ix2 t r)) := by
  pointwise [sclV]

theorem divV_eq (v50 : FVec Ideal S3x512x1536 .f32) (v55 : FVec Ideal S3x512x1 .f32) : divV v50 v55
    = divf v50 (broadcastTo S3x512x1536 (sclV v55 (minV (candV v55))) broadcasts_S3x512x1_S3x512x1536) := rfl

theorem quot_apply (v50 : FVec Ideal S3x512x1536 .f32) (m : FVec Ideal S3x512x1 .f32) (t : Fin 3) (r : Fin 512) (c : Fin 1536) :
    (divf v50 (broadcastTo S3x512x1536 m broadcasts_S3x512x1_S3x512x1536) : FVec Ideal S3x512x1536 .f32) (ix3 t r c)
      = Ideal.div (v50 (ix3 t r c)) (m (ix3 t r 0)) := by
  pointwise

theorem divV_apply (v50 : FVec Ideal S3x512x1536 .f32) (v55 : FVec Ideal S3x512x1 .f32) (t : Fin 3) (r : Fin 512) (c : Fin 1536) :
    divV v50 v55 (ix3 t r c) = Ideal.div (v50 (ix3 t r c)) (Scale.scale (v55 (ix3 t r 0))) := by
  rw [divV_eq, quot_apply, sclV_apply, minV_apply]
  simp only [candV_apply]
  rw [select_scale]

theorem normV_apply (v22 : FVec Ideal S3x512x1536 .f32) (v26 v33 : FVec Ideal S3x512x1 .f32) (v43 v47 : Vec Ideal S1x1x1536 .f32)
    (t : Fin 3) (r : Fin 512) (c : Fin 1536)
    (h26 : v26 (ix3 t r 0) = Row.mean (fun k => v22 (ix3 t r k)))
    (h33 : v33 (ix3 t r 0) = ∑ k : Fin 1536, (v22 (ix3 t r k) - Row.mean (fun k => v22 (ix3 t r k))) * (v22 (ix3 t r k) - Row.mean (fun k => v22 (ix3 t r k)))) :
    normV v22 v26 v33 (Scalar.ofBits .f32 0x44C00000#32) v43 v47 (ix3 t r c)
      = Row.norm (fun k => v22 (ix3 t r k)) (fun k => v43 (ix3 0 0 k)) (fun k => v47 (ix3 0 0 k)) c := by
  pointwise [normV]
  rw [h26, h33]
  rfl

theorem pay6_apply (v22 : FVec Ideal S3x512x1536 .f32) (v26 v33 : FVec Ideal S3x512x1 .f32) (v43 v47 : Vec Ideal S1x1x1536 .f32)
    (t : Fin 3) (r : Fin 512) (c : Fin 1536)
    (h26 : v26 (ix3 t r 0) = Row.mean (fun k => v22 (ix3 t r k)))
    (h33 : v33 (ix3 t r 0) = ∑ k : Fin 1536, (v22 (ix3 t r k) - Row.mean (fun k => v22 (ix3 t r k))) * (v22 (ix3 t r k) - Row.mean (fun k => v22 (ix3 t r k)))) :
    k0_pay6 v22 v26 v33 (Scalar.ofBits .f32 0x44C00000#32) v43 v47 (ix3 t r c)
      = Ideal.div (Row.norm (fun k => v22 (ix3 t r k)) (fun k => v43 (ix3 0 0 k)) (fun k => v47 (ix3 0 0 k)) c)
          (Scale.scale (Row.rmax (Row.norm (fun k => v22 (ix3 t r k)) (fun k => v43 (ix3 0 0 k)) (fun k => v47 (ix3 0 0 k))))) := by
  have h : k0_pay6 v22 v26 v33 (Scalar.ofBits .f32 0x44C00000#32) v43 v47
      = divV (normV v22 v26 v33 (Scalar.ofBits .f32 0x44C00000#32) v43 v47)
          (rmaxV (normV v22 v26 v33 (Scalar.ofBits .f32 0x44C00000#32) v43 v47)) := rfl
  rw [h, divV_apply, rmaxV_apply]
  simp only [normV_apply _ _ _ _ _ _ _ _ h26 h33]

/-- The reference's code at member `t`, row `r`, column `c`, from the quotient. -/
theorem pay1_apply (v78 : FVec Ideal S3x512x1536 .f32) (t : Fin 3) (r : Fin 512) (c : Fin 1536) :
    k0_pay1 v78 (ix3 t r c) = Row.clip (v78 (ix3 t r c)) := by
  unfold Row.clip
  pointwise [k0_pay1]

end Cert.ReferenceIdeal.Pay

end
-- ==== Proof.PayR2.lean ====
/-
  The reference's arithmetic at an index of the whole arrays.
-/
module

public import proofs.«01_k».proof.Proof.Row
public import proofs.«01_k».proof.Proof.Gen.ReferenceIdeal.Skeleton
public import Idealize.ShloMosaic.Lib.Pointwise

@[expose] public section

set_option maxRecDepth 16384

noncomputable section

namespace Cert.ReferenceIdeal.Pay

open Idealize.ShloMosaic Cert.ReferenceIdeal Cert.ReferenceIdeal.Gen

section Whole

variable (v0 : Vec Ideal S3x512x1536 .fp8e4m3) (v2 : Vec Ideal S1536x1536 .fp8e4m3) (v5 : Vec Ideal S3x512x128 .f32)
    (v9 v13 : Vec Ideal S1x1x1536 .f32) (v17 : Vec Ideal S3x512x1536 .bf16) (t : Fin 3) (r : Fin 512) (c : Fin 1536)

/-- Row `r` of member `t` of the reference's output. -/
def orow (c : Fin 1536) : EReal :=
  Row.outv (v17 (ix3 t r c)) (fun k => v0 (ix3 t r k)) (fun k => v2 (ix2 k c)) (v5 (ix3 t r 0)) (v9 (ix3 0 0 c)) (v13 (ix3 0 0 c))

theorem pay2_apply : k0_pay2 v0 v2 v5 v9 v13 v17 (ix3 t r c) = orow v0 v2 v5 v9 v13 v17 t r c := by
  unfold orow Row.outv
  pointwise [k0_pay2]

theorem pay3_apply : k0_pay3 v0 v2 v5 v9 v13 v17 (ix3 t r c) = orow v0 v2 v5 v9 v13 v17 t r c := by
  rw [← pay2_apply]
  pointwise [k0_pay3]

theorem pay4_apply : k0_pay4 v0 v2 v5 v9 v13 v17 (ix3 t r 0) = Row.mean (orow v0 v2 v5 v9 v13 v17 t r) := by
  unfold Row.mean
  simp only [← pay3_apply]
  pointwise [k0_pay4]

theorem pay5_apply : k0_pay5 v0 v2 v5 v9 v13 v17 (ix3 t r 0)
    = ∑ k : Fin 1536, (orow v0 v2 v5 v9 v13 v17 t r k - Row.mean (orow v0 v2 v5 v9 v13 v17 t r))
        * (orow v0 v2 v5 v9 v13 v17 t r k - Row.mean (orow v0 v2 v5 v9 v13 v17 t r)) := by
  simp only [← pay4_apply]
  simp only [← pay3_apply]
  pointwise [k0_pay5]

end Whole

end Cert.ReferenceIdeal.Pay

end
-- ==== Proof.ArrR.lean ====
/-
  The reference's two result arrays as functions of its arguments.
-/
module

public import proofs.«01_k».proof.Proof.PayR
public import proofs.«01_k».proof.Proof.PayR2
public import proofs.«01_k».proof.Proof.Spec
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Arr

open Idealize.ShloMosaic Idealize.ShloMosaic.TcCoe Idealize.SL.Sem Cert.ReferenceIdeal Cert.ReferenceIdeal.Gen
open Idealize.ShloMosaic.Pipeline (Dat)

theorem hz2 : (![0, 0] : Fin 2 → Nat) = fun _ => 0 := funext fun a => by fin_cases a <;> rfl

theorem hz3 : (![0, 0, 0] : Fin 3 → Nat) = fun _ => 0 := funext fun a => by fin_cases a <;> rfl

theorem ix3_cover (y : S3x512x1536.Idx) : ∃ (t : Fin 3) (r : Fin 512) (c : Fin 1536), y = ix3 t r c :=
  ⟨y 0, y 1, y 2, by
    funext a
    match a with
    | ⟨0, _⟩ => rfl
    | ⟨1, _⟩ => rfl
    | ⟨2, _⟩ => rfl⟩

section Whole

variable (x0 : Vec Ideal S3x512x1536 .bf16) (x1 : Vec Ideal S3x512x1536 .fp8e4m3) (x2 : Vec Ideal S3x512x128 .f32)
  (x3 : Vec Ideal S1536x1536 .fp8e4m3) (x4 x5 x6 x7 : Vec Ideal S1x1x1536 .f32) (t : Fin 3) (r : Fin 512) (c : Fin 1536)

theorem out8_eq : out0_8 x0 x1 x2 x3 x4 x5 x6 x7 (ix3 t r c) = Pay.orow x1 x3 x2 x4 x5 x0 t r c := by
  unfold out0_8
  rw [View.canon_unit_zero hz3]
  simp only [View.ld_unit_zero (S := S3x512x1536) hz3, View.ld_unit_zero (S := S3x512x128) hz3, View.ld_unit_zero (S := S1x1x1536) hz3,
    View.ld_unit_zero (S := S1536x1536) hz2]
  exact Pay.pay2_apply ..

theorem out9_eq : out0_9 x0 x1 x2 x3 x4 x5 x6 x7 (ix3 t r c)
    = Row.code (Row.norm (Pay.orow x1 x3 x2 x4 x5 x0 t r) (fun k => x6 (ix3 0 0 k)) (fun k => x7 (ix3 0 0 k))) c := by
  unfold out0_9
  rw [View.canon_unit_zero hz3]
  simp only [View.ld_unit_zero (S := S3x512x1536) hz3, View.ld_unit_zero (S := S3x512x128) hz3, View.ld_unit_zero (S := S1x1x1536) hz3,
    View.ld_unit_zero (S := S1536x1536) hz2]
  have e : (fun k => k0_pay3 x1 x3 x2 x4 x5 x0 (ix3 t r k)) = Pay.orow x1 x3 x2 x4 x5 x0 t r := funext fun k => Pay.pay3_apply ..
  have h26 : k0_pay4 x1 x3 x2 x4 x5 x0 (ix3 t r 0) = Row.mean (fun k => k0_pay3 x1 x3 x2 x4 x5 x0 (ix3 t r k)) := by
    rw [e]; exact Pay.pay4_apply ..
  have h33 : k0_pay5 x1 x3 x2 x4 x5 x0 (ix3 t r 0) = ∑ k : Fin 1536,
      (k0_pay3 x1 x3 x2 x4 x5 x0 (ix3 t r k) - Row.mean (fun k => k0_pay3 x1 x3 x2 x4 x5 x0 (ix3 t r k)))
        * (k0_pay3 x1 x3 x2 x4 x5 x0 (ix3 t r k) - Row.mean (fun k => k0_pay3 x1 x3 x2 x4 x5 x0 (ix3 t r k))) := by
    rw [e]
    simp only [Pay.pay3_apply]
    exact Pay.pay5_apply ..
  rw [Pay.pay1_apply, Pay.pay6_apply _ _ _ _ _ _ _ _ h26 h33, e]
  rfl

end Whole

variable (m : (ℓ : Loc nD τ sig) → Buf (Elt Ideal) ℓ) (c : Dev nD)

/-- Where each window's block lies. -/
theorem idx : ∀ t : Fin cfg0.N, win0_0.index t = ![0, 0, 0] ∧ win0_1.index t = ![0, 0, 0] ∧ win0_2.index t = ![0, 0, 0]
    ∧ win0_3.index t = ![0, 0] ∧ win0_4.index t = ![0, 0, 0] ∧ win0_5.index t = ![0, 0, 0] ∧ win0_6.index t = ![0, 0, 0] ∧ win0_7.index t = ![0, 0, 0]
    ∧ win0_8.index t = ![0, 0, 0] ∧ win0_9.index t = ![0, 0, 0] := by
  decide +kernel

theorem blk0 (u : Fin cfg0.N) (t : Fin 3) (r : Fin 512) (k : Fin 1536) :
    iblk m c 0 u (ix3 t r k) = m ((c : Thread nD τ).loc main_arg0) (ix3 t r k) := by
  blk_ext [iblk, V_main_arg0, idx u]

theorem blk1 (u : Fin cfg0.N) (t : Fin 3) (r : Fin 512) (k : Fin 1536) :
    iblk m c 1 u (ix3 t r k) = m ((c : Thread nD τ).loc main_arg1) (ix3 t r k) := by
  blk_ext [iblk, V_main_arg1, idx u]

theorem blk2 (u : Fin cfg0.N) (t : Fin 3) (r : Fin 512) (k : Fin 128) :
    iblk m c 2 u (ix3 t r k) = m ((c : Thread nD τ).loc main_arg2) (ix3 t r k) := by
  blk_ext [iblk, V_main_arg2, idx u]

theorem blk3 (u : Fin cfg0.N) (r k : Fin 1536) :
    iblk m c 3 u (ix2 r k) = m ((c : Thread nD τ).loc main_arg3) (ix2 r k) := by
  blk_ext [iblk, V_main_arg3, idx u]

theorem blk4 (u : Fin cfg0.N) (k : Fin 1536) :
    iblk m c 4 u (ix3 0 0 k) = m ((c : Thread nD τ).loc main_arg4) (ix1 k) := by
  blk_ext! [iblk, idx u]

theorem blk5 (u : Fin cfg0.N) (k : Fin 1536) :
    iblk m c 5 u (ix3 0 0 k) = m ((c : Thread nD τ).loc main_arg5) (ix1 k) := by
  blk_ext! [iblk, idx u]

theorem blk6 (u : Fin cfg0.N) (k : Fin 1536) :
    iblk m c 6 u (ix3 0 0 k) = m ((c : Thread nD τ).loc main_arg6) (ix1 k) := by
  blk_ext! [iblk, idx u]

theorem blk7 (u : Fin cfg0.N) (k : Fin 1536) :
    iblk m c 7 u (ix3 0 0 k) = m ((c : Thread nD τ).loc main_arg7) (ix1 k) := by
  blk_ext! [iblk, idx u]

theorem emb8 (u : Fin cfg0.N) (y : S3x512x1536.Idx) :
    ((View.whole main_v4_0).slice (win0_8.rect u)).emb y = y := by
  blk_ext [idx u]

theorem emb9 (u : Fin cfg0.N) (y : S3x512x1536.Idx) :
    ((View.whole main_v4_1).slice (win0_9.rect u)).emb y = y := by
  blk_ext [idx u]

theorem orow_eq (u : Fin cfg0.N) (t : Fin 3) (r : Fin 512) :
    Pay.orow (iblk m c 1 u) (iblk m c 3 u) (iblk m c 2 u) (iblk m c 4 u) (iblk m c 5 u) (iblk m c 0 u) t r
      = Spec.orow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t r := by
  funext k
  unfold Pay.orow Spec.orow
  simp only [blk0, blk1, blk2, blk3, blk4, blk5]

/-- The reference's output array. -/
theorem final8 : (dats m 0 c).arrAt 8 cfg0.N = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun u hf y => ?_
  blk_simp
  rw [after0_8, emb8]
  obtain ⟨t, r, k, rfl⟩ := ix3_cover y
  rw [out8_eq, orow_eq]
  rfl

/-- The reference's code array. -/
theorem final9 : (dats m 0 c).arrAt 9 cfg0.N = Spec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun u hf y => ?_
  blk_simp
  rw [after0_9, emb9]
  obtain ⟨t, r, k, rfl⟩ := ix3_cover y
  rw [out9_eq, orow_eq]
  simp only [blk6, blk7]
  rfl

end Cert.ReferenceIdeal.Arr

end
-- ==== Proof.NPayK.lean ====
/-
  The norm kernel's arithmetic at an index: a tile of 32 rows.
-/
module

public import proofs.«01_k».proof.Proof.Row
public import proofs.«01_k».proof.Proof.Gen.NormIdeal.Skeleton
public import Idealize.ShloMosaic.Lib.Pointwise

@[expose] public section

set_option maxRecDepth 16384

noncomputable section

namespace Cert.NormIdeal.Pay

open Idealize.ShloMosaic Cert.NormIdeal Cert.NormIdeal.Gen

/-- One comparison of the search on a column vector. -/
def stepV (x : FVec Ideal S32x1 .f32) (b : BitVec 32) (w : IVec S32x1 32) : IVec S32x1 32 :=
  select (cmpf .oge x (bitcastToFloat .f32 (shli (addi w (broadcast S32x1 b)) (broadcast S32x1 23#32)) : FVec Ideal S32x1 .f32))
    (addi w (broadcast S32x1 b)) w

theorem stepV_apply (x : FVec Ideal S32x1 .f32) (b : BitVec 32) (w : IVec S32x1 32) (i : S32x1.Idx) :
    stepV x b w i = Scale.stepW (x i) b (w i) := rfl

theorem pay7_eq (X : FVec Ideal S32x1 .f32) (v46 : IVec S32x1 1)
    (h : v46 = cmpf .oge X (bitcastToFloat .f32 (shli k0_pay5 (broadcast S32x1 23#32)) : FVec Ideal S32x1 .f32)) :
    k0_pay7 X k0_pay4 k0_pay5 v46
      = stepV X 2#32 (stepV X 4#32 (stepV X 8#32 (stepV X 16#32 (stepV X 32#32 (stepV X 64#32 (stepV X 128#32 (broadcast S32x1 0#32))))))) := by
  subst h
  rfl

/-- The capped field, on a column vector. -/
def capV (y : IVec S32x1 32) : IVec S32x1 32 :=
  select (cmpi .eq y (broadcast S32x1 255#32)) (broadcast S32x1 255#32) (minsi y (broadcast S32x1 246#32))

/-- The exponent, on a column vector. -/
def expoV (z : IVec S32x1 32) : IVec S32x1 32 :=
  select (ori (cmpi .eq z (broadcast S32x1 0#32)) (cmpi .eq z (broadcast S32x1 255#32))) (broadcast S32x1 0#32)
    (subi z (broadcast S32x1 126#32))

theorem capV_apply (y : IVec S32x1 32) (i : S32x1.Idx) : capV y i = Scale.capW (y i) := rfl

theorem expoV_apply (z : IVec S32x1 32) (i : S32x1.Idx) : expoV z i = Scale.expoW (z i) := rfl

theorem pay10_eq (X : FVec Ideal S32x1 .f32) (v89 : IVec S32x1 32) (i : S32x1.Idx) :
    k0_pay10 X v89 (addi v89 (broadcast S32x1 1#32)) (broadcast S32x1 23#32) i
      = Scale.expoW (Scale.capW (Scale.stepW (X i) 1#32 (v89 i))) := by
  have h : k0_pay10 X v89 (addi v89 (broadcast S32x1 1#32)) (broadcast S32x1 23#32) = expoV (capV (stepV X 1#32 v89)) := rfl
  rw [h, expoV_apply, capV_apply, stepV_apply]

section Tile

variable (v8 : Vec Ideal S1x32x1536 .bf16) (v11 v13 : Vec Ideal S1x1536 .f32) (r : Fin 32)

/-- Row `r` of a tile, normed. -/
def nrow : Fin 1536 → EReal := Row.norm (fun k => v8 (ix3 0 r k)) (fun k => v11 (ix2 0 k)) (fun k => v13 (ix2 0 k))

theorem pay2_apply (c : Fin 1536) : k0_pay2 v8 v11 v13 (ix2 r c) = nrow v8 v11 v13 r c := by
  unfold nrow Row.norm Row.mean
  pointwise [k0_pay2]

theorem pay3_apply : k0_pay3 v8 v11 v13 (ix2 r 0) = Row.rmax (nrow v8 v11 v13 r) := by
  have h : nrow v8 v11 v13 r = fun k => k0_pay2 v8 v11 v13 (ix2 r k) := funext fun k => (pay2_apply v8 v11 v13 r k).symm
  rw [h]
  unfold Row.rmax
  pointwise [k0_pay3]

/-- The exponent of row `r`'s scale. -/
theorem expo_apply :
    k0_pay10 (k0_pay3 v8 v11 v13) (k0_pay7 (k0_pay3 v8 v11 v13) k0_pay4 k0_pay5 (k0_pay6 v8 v11 v13))
      (k0_pay8 (k0_pay3 v8 v11 v13) k0_pay4 k0_pay5 (k0_pay6 v8 v11 v13)) k0_pay9 (ix2 r 0)
      = Scale.expoW (Scale.capW (Scale.searchW (Row.rmax (nrow v8 v11 v13 r)))) := by
  refine (pay10_eq _ _ _).trans ?_
  rw [pay7_eq (k0_pay3 v8 v11 v13) (k0_pay6 v8 v11 v13) rfl]
  simp only [stepV_apply, pay3_apply]
  rfl

theorem pay11_apply (v34 : FVec Ideal S32x1536 .f32) (X : FVec Ideal S32x1 .f32) (v89 v91 v92 : IVec S32x1 32) (c : Fin 1536) :
    k0_pay11 v34 X v89 v91 v92 (ix3 0 r c)
      = Row.clip (v34 (ix2 r c) * Ideal.ieee 8 23 (IntOp.shli .vector (IntOp.subi 127#32 (k0_pay10 X v89 v91 v92 (ix2 r 0))) 23#32)) := by
  unfold Row.clip
  generalize hE : k0_pay10 X v89 v91 v92 = E
  pointwise [k0_pay11, hE]
  rfl

theorem pay12_apply (X : FVec Ideal S32x1 .f32) (v89 v91 v92 : IVec S32x1 32) (c : Fin 128) :
    k0_pay1 (k0_pay12 X v89 v91 v92) (ix3 0 r c)
      = Ideal.ieee 8 23 (IntOp.shli .vector (IntOp.addi (k0_pay10 X v89 v91 v92 (ix2 r 0)) 127#32) 23#32) := by
  generalize hE : k0_pay10 X v89 v91 v92 = E
  pointwise [k0_pay1, k0_pay12, hE]
  rfl

/-- The stored code at row `r`, column `c` of a tile. -/
theorem q_apply (c : Fin 1536) :
    k0_pay11 (k0_pay2 v8 v11 v13) (k0_pay3 v8 v11 v13) (k0_pay7 (k0_pay3 v8 v11 v13) k0_pay4 k0_pay5 (k0_pay6 v8 v11 v13))
      (k0_pay8 (k0_pay3 v8 v11 v13) k0_pay4 k0_pay5 (k0_pay6 v8 v11 v13)) k0_pay9 (ix3 0 r c)
    = Row.code (nrow v8 v11 v13 r) c := by
  rw [pay11_apply, expo_apply, pay2_apply]
  exact congrArg Row.clip (Scale.mul_inv _ _)

/-- The stored scale of row `r` of a tile. -/
theorem s_apply (c : Fin 128) :
    k0_pay1 (k0_pay12 (k0_pay3 v8 v11 v13) (k0_pay7 (k0_pay3 v8 v11 v13) k0_pay4 k0_pay5 (k0_pay6 v8 v11 v13))
      (k0_pay8 (k0_pay3 v8 v11 v13) k0_pay4 k0_pay5 (k0_pay6 v8 v11 v13)) k0_pay9) (ix3 0 r c)
    = Scale.scale (Row.rmax (nrow v8 v11 v13 r)) := by
  rw [pay12_apply, expo_apply]
  exact Scale.scl_eq _

end Tile

end Cert.NormIdeal.Pay

end
-- ==== Proof.NBlk.lean ====
/-
  What one grid point's body leaves in its two output blocks, as functions of the block index.
-/
module

public import proofs.«01_k».proof.Proof.NPayK
public import proofs.«01_k».proof.Proof.Gen.NormIdeal.Value
public import Idealize.ShloMosaic.Lib.Pipeline.Value
public import Idealize.ShloMosaic.Lib.Tactic

@[expose] public section

set_option maxRecDepth 16384

noncomputable section

namespace Cert.NormIdeal.Blk

open Idealize.ShloMosaic Idealize.ShloMosaic.TcCoe Idealize.SL.Sem Cert.NormIdeal Cert.NormIdeal.Gen

section Block

variable (x0 : Vec Ideal S1x512x1536 .bf16) (x1 x2 : Vec Ideal S1x1536 .f32)

/-- Row `r` of a block, normed. -/
def nrow (r : Fin 512) : Fin 1536 → EReal :=
  Row.norm (fun k => x0 (ix3 0 r k)) (fun k => x1 (ix2 0 k)) (fun k => x2 (ix2 0 k))

/-- A block's codes. -/
def qblk : Vec Ideal S1x512x1536 .fp8e4m3 := fun y => Row.code (nrow x0 x1 x2 (y 1)) (y 2)

/-- A block's scales. -/
def sblk : Vec Ideal S1x512x128 .f32 := fun y => Scale.scale (Row.rmax (nrow x0 x1 x2 (y 1)))

end Block

/-- Row `r`, column `c` of a tile is row `o + r`, column `c` of the block. -/
theorem emb3 {n1 n2 m1 o : Nat} {off : Fin 3 → Nat} (ho : off = ![0, o, 0])
    (inb : ∀ a, off a + (![1, m1, n2] : Fin 3 → Nat) a ≤ (⟨3, ![1, n1, n2]⟩ : Shape).size a)
    (r : Fin m1) (c : Fin n2) (R : Fin n1) (hR : R.val = o + r.val) :
    (Rect.unit (s := ⟨3, ![1, n1, n2]⟩) off ![1, m1, n2] inb).emb (ix3 0 r c) = ix3 0 R c := by
  subst ho
  funext a
  apply Fin.ext
  match a with
  | ⟨0, _⟩ => rfl
  | ⟨1, _⟩ => exact (congrArg (o + ·) (Nat.one_mul r.val)).trans hR.symm
  | ⟨2, _⟩ => exact (Nat.zero_add _).trans (Nat.one_mul c.val)

theorem hz : (![0, 0] : Fin 2 → Nat) = fun _ => 0 := funext fun a => by fin_cases a <;> rfl

theorem ix3_cover {m1 n2 : Nat} (x : (⟨3, ![1, m1, n2]⟩ : Shape).Idx) : ∃ (r : Fin m1) (c : Fin n2), x = ix3 0 r c :=
  ⟨x 1, x 2, by
    funext a
    match a with
    | ⟨0, _⟩ => exact Fin.ext (by have : (x 0).val < 1 := (x 0).isLt; show (x 0).val = 0; omega)
    | ⟨1, _⟩ => rfl
    | ⟨2, _⟩ => rfl⟩

theorem tile_row (k : Fin k0_t1_loop.trips) (r : Fin 32) : 32 * k.val + r.val < 512 := by
  have hk : k.val < 16 := Nat.lt_of_lt_of_le k.isLt k0_t1_abs.2.1
  omega

theorem tile_nrow (x0 : Vec Ideal S1x512x1536 .bf16) (x1 x2 : Vec Ideal S1x1536 .f32) (k : Fin k0_t1_loop.trips) (r : Fin 32) :
    Pay.nrow (View.ld x0 (Rect.unit (s := S1x512x1536) (k0_off1 k) S1x32x1536.size (k0_off1_inb k))) x1 x2 r
    = nrow x0 x1 x2 ⟨32 * k.val + r.val, tile_row k r⟩ := by
  have h1 : ∀ c, (Rect.unit (s := S1x512x1536) (k0_off1 k) S1x32x1536.size (k0_off1_inb k)).emb (ix3 0 r c)
      = ix3 0 ⟨32 * k.val + r.val, tile_row k r⟩ c := fun c => emb3 (k0_off1_eq k) _ r c _ rfl
  unfold Pay.nrow nrow
  show Row.norm (fun k' => x0 ((Rect.unit (s := S1x512x1536) (k0_off1 k) S1x32x1536.size (k0_off1_inb k)).emb (ix3 0 r k'))) _ _ = _
  simp only [h1]

section Trip

variable (c : Dev nD) (i : grid0.Coords) (arg1 : Memref sig .tc .vmem S1x512x1536 .bf16) (harg1 : arg1.IsWhole) (arg2 : Memref sig .tc .vmem S1x1536 .f32) (harg2 : arg2.IsWhole) (arg3 : Memref sig .tc .vmem S1x1536 .f32) (harg3 : arg3.IsWhole) (arg4 : Memref sig .tc .vmem S1x512x1536 .fp8e4m3) (harg4 : arg4.IsWhole) (arg5 : Memref sig .tc .vmem S1x512x128 .f32) (harg5 : arg5.IsWhole) (x0 : Vec Ideal S1x512x1536 .bf16) (x1 x2 : Vec Ideal S1x1536 .f32)

theorem trip3 (k : Fin k0_t1_loop.trips) : ∀ p ∈ (tripL_k0_t1 (F := Ideal) Variants.none c none i arg1 harg1 arg2 harg2 arg3 harg3 arg4 harg4 arg5 harg5 (harg1.unread x0) (harg2.unread x1) (harg3.unread x2) k).1, ∀ x : p.1.shape.Idx,
    p.2 x = qblk x0 x1 x2 (p.1.emb x) := by
  intro p hp x
  dsimp only [tripL_k0_t1] at hp
  unfold trip_k0_t1 at hp
  dsimp only at hp
  rw [List.mem_singleton] at hp
  subst hp
  obtain ⟨r, c, rfl⟩ := ix3_cover x
  dsimp only
  rw [emb3 (k0_off1_eq k) _ r c ⟨32 * k.val + r.val, tile_row k r⟩ rfl]
  sl_unfold_run_names
  simp only [View.readAt_eq_ld, harg1.read_unread, harg2.read_unread, harg3.read_unread, View.ld_unit_zero (S := S1x1536) hz]
  refine (Pay.q_apply ..).trans ?_
  rw [tile_nrow]
  rfl

theorem trip4 (k : Fin k0_t1_loop.trips) : ∀ p ∈ (tripL_k0_t1 (F := Ideal) Variants.none c none i arg1 harg1 arg2 harg2 arg3 harg3 arg4 harg4 arg5 harg5 (harg1.unread x0) (harg2.unread x1) (harg3.unread x2) k).2, ∀ x : p.1.shape.Idx,
    p.2 x = sblk x0 x1 x2 (p.1.emb x) := by
  intro p hp x
  dsimp only [tripL_k0_t1] at hp
  unfold trip_k0_t1 at hp
  dsimp only at hp
  rw [List.mem_singleton] at hp
  subst hp
  obtain ⟨r, c, rfl⟩ := ix3_cover x
  dsimp only
  rw [emb3 (k0_off2_eq k) _ r c ⟨32 * k.val + r.val, tile_row k r⟩ rfl]
  sl_unfold_run_names
  simp only [View.readAt_eq_ld, harg1.read_unread, harg2.read_unread, harg3.read_unread, View.ld_unit_zero (S := S1x1536) hz]
  refine (Pay.s_apply ..).trans ?_
  rw [tile_nrow]
  rfl

theorem pieces3 : ∀ n : ℕ, n ≤ k0_t1_loop.trips → ∀ p ∈ (pb_k0_t1 (F := Ideal) Variants.none c none i arg1 harg1 arg2 harg2 arg3 harg3 arg4 harg4 arg5 harg5 (harg1.unread x0) (harg2.unread x1) (harg3.unread x2) n).1, ∀ x : p.1.shape.Idx,
    p.2 x = qblk x0 x1 x2 (p.1.emb x)
  | 0, _ => by
    intro p hp
    rw [pb_k0_t1.eq_1] at hp
    exact absurd hp List.not_mem_nil
  | n + 1, hn => by
    intro p hp x
    have e := pb_k0_t1_succ (F := Ideal) Variants.none c none i arg1 harg1 arg2 harg2 arg3 harg3 arg4 harg4 arg5 harg5 (harg1.unread x0) (harg2.unread x1) (harg3.unread x2) ⟨n, hn⟩
    rw [show n + 1 = (⟨n, hn⟩ : Fin k0_t1_loop.trips).val + 1 from rfl, e] at hp
    rcases List.mem_append.mp hp with h | h
    · exact trip3 c i arg1 harg1 arg2 harg2 arg3 harg3 arg4 harg4 arg5 harg5 x0 x1 x2 ⟨n, hn⟩ p h x
    · exact pieces3 n (Nat.le_of_succ_le hn) p h x

/-- What a point's body leaves in output block 3. -/
theorem out3_eq : out0_A_3 (F := Ideal) c i arg1 harg1 arg2 harg2 arg3 harg3 arg4 harg4 arg5 harg5 x0 x1 x2 = qblk x0 x1 x2 := by
  unfold out0_A_3
  rw [View.read_writes_eq_canon _ _ _ (cover0_A_3 c i arg1 harg1 arg2 harg2 arg3 harg3 arg4 harg4 arg5 harg5 x0 x1 x2)]
  funext y
  refine View.canon_apply_of_pieces _ _ ?_ y (cover0_A_3 c i arg1 harg1 arg2 harg2 arg3 harg3 arg4 harg4 arg5 harg5 x0 x1 x2 y)
  unfold kernelRun0_A
  dsimp only
  exact pieces3 c i arg1 harg1 arg2 harg2 arg3 harg3 arg4 harg4 arg5 harg5 x0 x1 x2 _ (Nat.le_refl _)

theorem pieces4 : ∀ n : ℕ, n ≤ k0_t1_loop.trips → ∀ p ∈ (pb_k0_t1 (F := Ideal) Variants.none c none i arg1 harg1 arg2 harg2 arg3 harg3 arg4 harg4 arg5 harg5 (harg1.unread x0) (harg2.unread x1) (harg3.unread x2) n).2, ∀ x : p.1.shape.Idx,
    p.2 x = sblk x0 x1 x2 (p.1.emb x)
  | 0, _ => by
    intro p hp
    rw [pb_k0_t1.eq_1] at hp
    exact absurd hp List.not_mem_nil
  | n + 1, hn => by
    intro p hp x
    have e := pb_k0_t1_succ (F := Ideal) Variants.none c none i arg1 harg1 arg2 harg2 arg3 harg3 arg4 harg4 arg5 harg5 (harg1.unread x0) (harg2.unread x1) (harg3.unread x2) ⟨n, hn⟩
    rw [show n + 1 = (⟨n, hn⟩ : Fin k0_t1_loop.trips).val + 1 from rfl, e] at hp
    rcases List.mem_append.mp hp with h | h
    · exact trip4 c i arg1 harg1 arg2 harg2 arg3 harg3 arg4 harg4 arg5 harg5 x0 x1 x2 ⟨n, hn⟩ p h x
    · exact pieces4 n (Nat.le_of_succ_le hn) p h x

/-- What a point's body leaves in output block 4. -/
theorem out4_eq : out0_A_4 (F := Ideal) c i arg1 harg1 arg2 harg2 arg3 harg3 arg4 harg4 arg5 harg5 x0 x1 x2 = sblk x0 x1 x2 := by
  unfold out0_A_4
  rw [View.read_writes_eq_canon _ _ _ (cover0_A_4 c i arg1 harg1 arg2 harg2 arg3 harg3 arg4 harg4 arg5 harg5 x0 x1 x2)]
  funext y
  refine View.canon_apply_of_pieces _ _ ?_ y (cover0_A_4 c i arg1 harg1 arg2 harg2 arg3 harg3 arg4 harg4 arg5 harg5 x0 x1 x2 y)
  unfold kernelRun0_A
  dsimp only
  exact pieces4 c i arg1 harg1 arg2 harg2 arg3 harg3 arg4 harg4 arg5 harg5 x0 x1 x2 _ (Nat.le_refl _)

end Trip

end Cert.NormIdeal.Blk

end
-- ==== Proof.NSpec.lean ====
/-
  The first norm's codes and scales as functions of the argument arrays.
-/
module

public import proofs.«01_k».proof.Proof.Row
public import Idealize.ShloMosaic.Lib.Pointwise

@[expose] public section

noncomputable section

namespace Cert.NSpec

open Idealize.ShloMosaic

variable (x : (⟨3, ![3, 512, 1536]⟩ : Shape).Idx → EReal) (g b : (⟨1, ![1536]⟩ : Shape).Idx → EReal)

/-- Row `(t, r)`, normed. -/
def nrow (t : Fin 3) (r : Fin 512) : Fin 1536 → EReal :=
  Row.norm (fun k => x (ix3 t r k)) (fun k => g (ix1 k)) (fun k => b (ix1 k))

/-- The codes. -/
def codes (y : (⟨3, ![3, 512, 1536]⟩ : Shape).Idx) : EReal := Row.code (nrow x g b (y 0) (y 1)) (y 2)

/-- Each row's scale, once per lane. -/
def scales (y : (⟨3, ![3, 512, 128]⟩ : Shape).Idx) : EReal := Scale.scale (Row.rmax (nrow x g b (y 0) (y 1)))

end Cert.NSpec

end
-- ==== Proof.NArrK.lean ====
/-
  The norm kernel's two result arrays as functions of its arguments.
-/
module

public import proofs.«01_k».proof.Proof.NBlk
public import proofs.«01_k».proof.Proof.NSpec
public import Idealize.ShloMosaic.Lib.Pipeline.ValueKit
public import Idealize.ShloMosaic.Lib.Claim

@[expose] public section

set_option maxRecDepth 16384

noncomputable section

namespace Cert.NormIdeal.Arr

open Idealize.ShloMosaic Idealize.ShloMosaic.TcCoe Idealize.SL.Sem Cert.NormIdeal Cert.NormIdeal.Gen
open Idealize.ShloMosaic.Pipeline (Dat)

variable (m : (ℓ : Loc nD τ sig) → Buf (Elt Ideal) ℓ) (c : Dev nD)

/-- Where each window's block lies. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] := by
  decide +kernel

theorem lt3 (t : Fin cfg0.N) : t.val < 3 := Nat.lt_of_lt_of_eq t.isLt N_0

theorem blk0 (t : Fin cfg0.N) (r : Fin 512) (k : Fin 1536) :
    iblk m c 0 t (ix3 0 r k) = m ((c : Thread nD τ).loc main_arg0) (ix3 ⟨t.val, lt3 t⟩ r k) := by
  blk_ext [iblk, V_main_arg0, idx t]

theorem blk1 (t : Fin cfg0.N) (k : Fin 1536) :
    iblk m c 1 t (ix2 0 k) = m ((c : Thread nD τ).loc main_arg1) (ix1 k) := by
  blk_ext! [iblk, idx t]

theorem blk2 (t : Fin cfg0.N) (k : Fin 1536) :
    iblk m c 2 t (ix2 0 k) = m ((c : Thread nD τ).loc main_arg2) (ix1 k) := by
  blk_ext! [iblk, idx t]

theorem nrow_eq (t : Fin cfg0.N) (r : Fin 512) :
    Blk.nrow (iblk m c 0 t) (iblk m c 1 t) (iblk m c 2 t) r = NSpec.nrow (m ((c : Thread nD τ).loc main_arg0)) (m ((c : Thread nD τ).loc main_arg1)) (m ((c : Thread nD τ).loc main_arg2)) ⟨t.val, lt3 t⟩ r := by
  unfold Blk.nrow NSpec.nrow
  simp only [blk0, blk1, blk2]

theorem emb3 (t : Fin cfg0.N) (y : S1x512x1536.Idx) :
    ((View.whole main_v2_0).slice (win0_3.rect t)).emb y = ix3 (⟨t.val, lt3 t⟩ : Fin 3) (y 1 : Fin 512) (y 2 : Fin 1536) := by
  blk_ext [idx t]

theorem emb4 (t : Fin cfg0.N) (y : S1x512x128.Idx) :
    ((View.whole main_v2_1).slice (win0_4.rect t)).emb y = ix3 (⟨t.val, lt3 t⟩ : Fin 3) (y 1 : Fin 512) (y 2 : Fin 128) := by
  blk_ext [idx t]

/-- The kernel's code array. -/
theorem final3 : (dats m 0 c).arrAt 3 cfg0.N = NSpec.codes (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  dsimp only
  rw [Blk.out3_eq, emb3]
  exact congrArg (Row.code · _) (nrow_eq m c t _)

/-- The kernel's scale array. -/
theorem final4 : (dats m 0 c).arrAt 4 cfg0.N = NSpec.scales (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  dsimp only
  rw [Blk.out4_eq, emb4]
  exact congrArg (fun o => Scale.scale (Row.rmax o)) (nrow_eq m c t _)

end Cert.NormIdeal.Arr

end
-- ==== Proof.NPayR.lean ====
/-
  The norm reference's arithmetic at an index of the whole arrays.
-/
module

public import proofs.«01_k».proof.Proof.PayR
public import proofs.«01_k».proof.Proof.Gen.NormReferenceIdeal.Skeleton
public import Idealize.ShloMosaic.Lib.Pointwise

@[expose] public section

set_option maxRecDepth 16384

noncomputable section

namespace Cert.NormReferenceIdeal.Pay

open Idealize.ShloMosaic Cert.NormReferenceIdeal Cert.NormReferenceIdeal.Gen

variable (v0 : Vec Ideal S3x512x1536 .bf16) (v22 v26 : Vec Ideal S1x1x1536 .f32) (t : Fin 3) (r : Fin 512) (c : Fin 1536)

/-- Row `r` of member `t`, normed. -/
def nrow : Fin 1536 → EReal := Row.norm (fun k => v0 (ix3 t r k)) (fun k => v22 (ix3 0 0 k)) (fun k => v26 (ix3 0 0 k))

theorem pay4_apply : k0_pay4 v0 v22 v26 (ix3 t r c) = nrow v0 v22 v26 t r c := by
  unfold nrow Row.norm Row.mean
  pointwise [k0_pay4]

theorem pay5_apply : k0_pay5 v0 v22 v26 (ix3 t r 0) = Row.rmax (nrow v0 v22 v26 t r) := by
  have h : k0_pay5 v0 v22 v26 = Cert.ReferenceIdeal.Pay.rmaxV (k0_pay4 v0 v22 v26) := rfl
  rw [h, Cert.ReferenceIdeal.Pay.rmaxV_apply]
  exact congrArg Row.rmax (funext fun k => pay4_apply ..)

theorem pay1_apply : k0_pay1 (k0_pay5 v0 v22 v26) k0_pay6 (k0_pay7 v0 v22 v26) (ix3 t r 0) = Scale.scale (Row.rmax (nrow v0 v22 v26 t r)) := by
  have h : k0_pay1 (k0_pay5 v0 v22 v26) k0_pay6 (k0_pay7 v0 v22 v26)
      = Cert.ReferenceIdeal.Pay.sclV (k0_pay5 v0 v22 v26) (Cert.ReferenceIdeal.Pay.minV (Cert.ReferenceIdeal.Pay.candV (k0_pay5 v0 v22 v26))) := rfl
  rw [h, Cert.ReferenceIdeal.Pay.sclV_apply, Cert.ReferenceIdeal.Pay.minV_apply]
  simp only [Cert.ReferenceIdeal.Pay.candV_apply]
  rw [Cert.ReferenceIdeal.Pay.select_scale]
  exact congrArg Scale.scale (pay5_apply v0 v22 v26 t r)

theorem pay2_apply : k0_pay2 (k0_pay4 v0 v22 v26) (k0_pay5 v0 v22 v26) k0_pay6 (k0_pay7 v0 v22 v26) (ix3 t r c)
    = Row.code (nrow v0 v22 v26 t r) c := by
  have h : k0_pay2 (k0_pay4 v0 v22 v26) (k0_pay5 v0 v22 v26) k0_pay6 (k0_pay7 v0 v22 v26)
      = Cert.ReferenceIdeal.Gen.k0_pay1 (divf (k0_pay4 v0 v22 v26) (broadcastTo S3x512x1536 (k0_pay1 (k0_pay5 v0 v22 v26) k0_pay6 (k0_pay7 v0 v22 v26)) broadcasts_S3x512x1_S3x512x1536)) := rfl
  rw [h, Cert.ReferenceIdeal.Pay.pay1_apply]
  refine congrArg Row.clip ((Cert.ReferenceIdeal.Pay.quot_apply ..).trans ?_)
  rw [pay4_apply, pay1_apply]

theorem pay3_apply (l : Fin 128) : k0_pay3 (k0_pay5 v0 v22 v26) k0_pay6 (k0_pay7 v0 v22 v26) (ix3 t r l)
    = Scale.scale (Row.rmax (nrow v0 v22 v26 t r)) := by
  rw [← pay1_apply]
  unfold k0_pay3
  generalize k0_pay1 (k0_pay5 v0 v22 v26) k0_pay6 (k0_pay7 v0 v22 v26) = s
  pointwise

end Cert.NormReferenceIdeal.Pay

end
-- ==== Proof.NArrR.lean ====
/-
  The norm reference's two result arrays as functions of its arguments.
-/
module

public import proofs.«01_k».proof.Proof.NPayR
public import proofs.«01_k».proof.Proof.NSpec
public import proofs.«01_k».proof.Proof.Gen.NormReferenceIdeal.Value
public import Idealize.ShloMosaic.Lib.Pipeline.ValueKit
public import Idealize.ShloMosaic.Lib.Claim

@[expose] public section

set_option maxRecDepth 16384

noncomputable section

namespace Cert.NormReferenceIdeal.Arr

open Idealize.ShloMosaic Idealize.ShloMosaic.TcCoe Idealize.SL.Sem Cert.NormReferenceIdeal Cert.NormReferenceIdeal.Gen
open Idealize.ShloMosaic.Pipeline (Dat)

theorem hz3 : (![0, 0, 0] : Fin 3 → Nat) = fun _ => 0 := funext fun a => by fin_cases a <;> rfl

theorem ix3_cover {n : Nat} (y : (⟨3, ![3, 512, n]⟩ : Shape).Idx) : ∃ (t : Fin 3) (r : Fin 512) (c : Fin n), y = ix3 t r c :=
  ⟨y 0, y 1, y 2, by
    funext a
    match a with
    | ⟨0, _⟩ => rfl
    | ⟨1, _⟩ => rfl
    | ⟨2, _⟩ => rfl⟩

section Whole

variable (x0 : Vec Ideal S3x512x1536 .bf16) (x1 x2 : Vec Ideal S1x1x1536 .f32) (t : Fin 3) (r : Fin 512)

theorem out3_eq (c : Fin 1536) : out0_3 x0 x1 x2 (ix3 t r c) = Row.code (Pay.nrow x0 x1 x2 t r) c := by
  unfold_out out0_3
  rw [View.canon_unit_zero hz3]
  simp only [View.ld_unit_zero (S := S3x512x1536) hz3, View.ld_unit_zero (S := S1x1x1536) hz3]
  exact Pay.pay2_apply ..

theorem out4_eq (c : Fin 128) : out0_4 x0 x1 x2 (ix3 t r c) = Scale.scale (Row.rmax (Pay.nrow x0 x1 x2 t r)) := by
  unfold_out out0_4
  rw [View.canon_unit_zero hz3]
  simp only [View.ld_unit_zero (S := S3x512x1536) hz3, View.ld_unit_zero (S := S1x1x1536) hz3]
  exact Pay.pay3_apply ..

end Whole

variable (m : (ℓ : Loc nD τ sig) → Buf (Elt Ideal) ℓ) (c : Dev nD)

/-- Where each window's block lies. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] := by
  decide +kernel

theorem blk0 (u : Fin cfg0.N) (t : Fin 3) (r : Fin 512) (k : Fin 1536) :
    iblk m c 0 u (ix3 t r k) = m ((c : Thread nD τ).loc main_arg0) (ix3 t r k) := by
  blk_ext [iblk, V_main_arg0, idx u]

theorem blk1 (u : Fin cfg0.N) (k : Fin 1536) :
    iblk m c 1 u (ix3 0 0 k) = m ((c : Thread nD τ).loc main_arg1) (ix1 k) := by
  blk_ext! [iblk, idx u]

theorem blk2 (u : Fin cfg0.N) (k : Fin 1536) :
    iblk m c 2 u (ix3 0 0 k) = m ((c : Thread nD τ).loc main_arg2) (ix1 k) := by
  blk_ext! [iblk, idx u]

theorem emb3 (u : Fin cfg0.N) (y : S3x512x1536.Idx) :
    ((View.whole main_v2_0).slice (win0_3.rect u)).emb y = y := by
  blk_ext [idx u]

theorem emb4 (u : Fin cfg0.N) (y : S3x512x128.Idx) :
    ((View.whole main_v2_1).slice (win0_4.rect u)).emb y = y := by
  blk_ext [idx u]

theorem nrow_eq (u : Fin cfg0.N) (t : Fin 3) (r : Fin 512) :
    Pay.nrow (iblk m c 0 u) (iblk m c 1 u) (iblk m c 2 u) t r = NSpec.nrow (m ((c : Thread nD τ).loc main_arg0)) (m ((c : Thread nD τ).loc main_arg1)) (m ((c : Thread nD τ).loc main_arg2)) t r := by
  unfold Pay.nrow NSpec.nrow
  simp only [blk0, blk1, blk2]

/-- The reference's code array. -/
theorem final3 : (dats m 0 c).arrAt 3 cfg0.N = NSpec.codes (m ((c : Thread nD τ).loc main_arg0)) (m ((c : Thread nD τ).loc main_arg1)) (m ((c : Thread nD τ).loc main_arg2)) := by
  refine (dats m 0 c).arrAt_eq_of_covers 3 _ (by decide +kernel) fun u hf y => ?_
  blk_simp
  rw [after0_3, emb3]
  obtain ⟨t, r, k, rfl⟩ := ix3_cover y
  rw [out3_eq, nrow_eq]
  rfl

/-- The reference's scale array. -/
theorem final4 : (dats m 0 c).arrAt 4 cfg0.N = NSpec.scales (m ((c : Thread nD τ).loc main_arg0)) (m ((c : Thread nD τ).loc main_arg1)) (m ((c : Thread nD τ).loc main_arg2)) := by
  refine (dats m 0 c).arrAt_eq_of_covers 4 _ (by decide +kernel) fun u hf y => ?_
  blk_simp
  rw [after0_4, emb4]
  obtain ⟨t, r, k, rfl⟩ := ix3_cover y
  rw [out4_eq, nrow_eq]
  rfl

end Cert.NormReferenceIdeal.Arr

end
-- ==== Proof.HPayK.lean ====
/-
  The head kernel's arithmetic at an index: of a tile of 8 rows of the product.
-/
module

public import proofs.«01_k».proof.Proof.Gen.HeadIdeal.Skeleton
public import Idealize.ShloMosaic.Lib.Pointwise

@[expose] public section

set_option maxRecDepth 16384

noncomputable section

namespace Cert.HeadIdeal.Pay

open Idealize.ShloMosaic Cert.HeadIdeal Cert.HeadIdeal.Gen

/-- A tile of 8 rows of the product with its scales and bias. -/
def tileV (acc : FVec Ideal S512x256 .f32) (off : Fin 2 → Nat) (h : S512x256.Slices off S8x128) (s : FVec Ideal S8x128 .f32)
    (w b : FVec Ideal S1x128 .f32) : FVec Ideal S8x128 .f32 :=
  addf (mulf (mulf (extractStridedSlice S8x128 off acc h) s) (broadcastTo S8x128 w broadcasts_S1x128_S8x128))
    (broadcastTo S8x128 b broadcasts_S1x128_S8x128)

theorem tileV_apply (acc : FVec Ideal S512x256 .f32) (o l : Nat) (h : S512x256.Slices ![o, l] S8x128) (s : FVec Ideal S8x128 .f32)
    (w b : FVec Ideal S1x128 .f32) (r : Fin 8) (c : Fin 128) (R : Fin 512) (C : Fin 256) (hR : R.val = o + r.val) (hC : C.val = l + c.val) :
    tileV acc ![o, l] h s w b (ix2 r c) = acc (ix2 R C) * s (ix2 r c) * w (ix2 0 c) + b (ix2 0 c) := by
  have e : extractStridedSlice S8x128 ![o, l] acc h (ix2 r c) = acc (ix2 R C) := by
    unfold extractStridedSlice
    congr 1
    funext a
    match a with
    | ⟨0, _⟩ => exact Fin.ext hR.symm
    | ⟨1, _⟩ => exact Fin.ext hC.symm
  pointwise [tileV, e]

theorem acc_apply (v7 : Vec Ideal S1x512x1536 .fp8e4m3) (v10 : Vec Ideal S1536x256 .fp8e4m3) (r : Fin 512) (c : Fin 256) :
    k0_pay6 v7 v10 (ix2 r c) = ∑ k : Fin 1536, v7 (ix3 0 r k) * v10 (ix2 k c) := by
  pointwise [k0_pay6, k0_pay5]

end Cert.HeadIdeal.Pay

end
-- ==== Proof.HTile.lean ====
/-
  What one store of the head kernel's loop holds, as a function of the block index.
-/
module

public import proofs.«01_k».proof.Proof.HPayK
public import Idealize.ShloMosaic.Lib.Pipeline.Value
public import Idealize.ShloMosaic.Lib.Tactic

@[expose] public section

set_option maxRecDepth 16384

noncomputable section

namespace Cert.HeadIdeal.Tile

open Idealize.ShloMosaic Idealize.ShloMosaic.TcCoe Idealize.SL.Sem Cert.HeadIdeal Cert.HeadIdeal.Gen

/-- Row `r`, column `c` of a block: the product with its scales and bias, `W` and `B` the scale and the bias of a column. -/
def hrow (x0 : Vec Ideal S1x512x1536 .fp8e4m3) (x1 : Vec Ideal S1x512x128 .f32) (x2 : Vec Ideal S1536x3072 .fp8e4m3)
    (W B : Vec Ideal S1x3072 .f32) (r : Fin 512) (c : Fin 3072) : EReal :=
  (∑ k : Fin 1536, x0 (ix3 0 r k) * x2 (ix2 k c)) * x1 (ix3 0 r 0) * W (ix2 0 c) + B (ix2 0 c)

/-- Row `r`, column `c` of a tile is row `o + r`, column `col + c` of the block. -/
theorem emb3 {n1 n2 m1 m2 o col : Nat} {off : Fin 3 → Nat} (ho : off = ![0, o, col])
    (inb : ∀ a, off a + (![1, m1, m2] : Fin 3 → Nat) a ≤ (⟨3, ![1, n1, n2]⟩ : Shape).size a)
    (r : Fin m1) (c : Fin m2) (R : Fin n1) (C : Fin n2) (hR : R.val = o + r.val) (hC : C.val = col + c.val) :
    (Rect.unit (s := ⟨3, ![1, n1, n2]⟩) off ![1, m1, m2] inb).emb (ix3 0 r c) = ix3 0 R C := by
  subst ho
  funext a
  apply Fin.ext
  match a with
  | ⟨0, _⟩ => rfl
  | ⟨1, _⟩ => exact (congrArg (o + ·) (Nat.one_mul r.val)).trans hR.symm
  | ⟨2, _⟩ => exact (congrArg (col + ·) (Nat.one_mul c.val)).trans hC.symm

/-- The same with two axes. -/
theorem emb2 {n1 n2 m1 m2 col : Nat} {off : Fin 2 → Nat} (ho : off = ![0, col])
    (inb : ∀ a, off a + (![m1, m2] : Fin 2 → Nat) a ≤ (⟨2, ![n1, n2]⟩ : Shape).size a)
    (r : Fin m1) (c : Fin m2) (R : Fin n1) (C : Fin n2) (hR : R.val = r.val) (hC : C.val = col + c.val) :
    (Rect.unit (s := ⟨2, ![n1, n2]⟩) off ![m1, m2] inb).emb (ix2 r c) = ix2 R C := by
  subst ho
  funext a
  apply Fin.ext
  match a with
  | ⟨0, _⟩ => exact ((Nat.zero_add _).trans (Nat.one_mul r.val)).trans hR.symm
  | ⟨1, _⟩ => exact (congrArg (col + ·) (Nat.one_mul c.val)).trans hC.symm

theorem hz : (![0, 0, 0] : Fin 3 → Nat) = fun _ => 0 := funext fun a => by fin_cases a <;> rfl

theorem ix3_cover {m1 n2 : Nat} (x : (⟨3, ![1, m1, n2]⟩ : Shape).Idx) : ∃ (r : Fin m1) (c : Fin n2), x = ix3 0 r c :=
  ⟨x 1, x 2, by
    funext a
    match a with
    | ⟨0, _⟩ => exact Fin.ext (by have : (x 0).val < 1 := (x 0).isLt; show (x 0).val = 0; omega)
    | ⟨1, _⟩ => rfl
    | ⟨2, _⟩ => rfl⟩

theorem cast3_apply (v : FVec Ideal S8x128 .f32) (r : Fin 8) (c : Fin 128) :
    shapeCast S1x8x128 v shapeCasts_S8x128_S1x8x128 (ix3 0 r c) = v (ix2 r c) := by
  pointwise

theorem cast2_apply (v : FVec Ideal S1x8x128 .f32) (r : Fin 8) (c : Fin 128) :
    shapeCast S8x128 v shapeCasts_S1x8x128_S8x128 (ix2 r c) = v (ix3 0 r c) := by
  pointwise

theorem rows_inb {o : Nat} (h : o + 8 ≤ 512) : ∀ a, (![0, o, 0] : Fin 3 → Nat) a + S1x8x128.size a ≤ S1x512x128.size a := fun a => by
  match a with
  | ⟨0, _⟩ => exact Nat.le_refl 1
  | ⟨1, _⟩ => exact h
  | ⟨2, _⟩ => exact Nat.le_refl 128

theorem tile_slices {o l : Nat} (ho : o + 8 ≤ 512) (hl : l + 128 ≤ 256) : S512x256.Slices ![o, l] S8x128 := ⟨rfl, fun a => by
  match a with
  | ⟨0, _⟩ => exact ho
  | ⟨1, _⟩ => exact hl⟩

section Trip

variable (c : Dev nD) (i : grid0.Coords) (arg1 : Memref sig .tc .vmem S1x512x1536 .fp8e4m3) (harg1 : arg1.IsWhole) (arg2 : Memref sig .tc .vmem S1x512x128 .f32) (harg2 : arg2.IsWhole) (arg3 : Memref sig .tc .vmem S1536x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x512x3072 .f32) (harg6 : arg6.IsWhole) (arg7 : Memref sig .tc .vmem S12x800x128 .f32) (harg7 : arg7.IsWhole) (arg8 : Memref sig .tc .vmem S1x3072 .f32) (harg8 : arg8.IsWhole) (arg9 : Memref sig .tc .vmem S1x3072 .f32) (harg9 : arg9.IsWhole)
  (X1 : BufTy.Contents (Elt Ideal) arg1.view.ty) (X2 : BufTy.Contents (Elt Ideal) arg2.view.ty) (X3 : BufTy.Contents (Elt Ideal) arg3.view.ty) (X8 : BufTy.Contents (Elt Ideal) arg8.view.ty) (X9 : BufTy.Contents (Elt Ideal) arg9.view.ty)

/-- The block the trips' stores agree with. -/
def hblk : Vec Ideal S1x512x3072 .f32 := fun y =>
  hrow (View.read (Elt Ideal) arg1.view X1) (View.read (Elt Ideal) arg2.view X2) (View.read (Elt Ideal) arg3.view X3)
    (View.read (Elt Ideal) arg8.view X8) (View.read (Elt Ideal) arg9.view X9) (y 1) (y 2)

/-- One store of a trip agrees with the block: its rows start at `o`, its columns at `col`, which is column `l` of the 256 the product was
    taken of, from `cb` on. -/
theorem tile_ok (hx : ∀ r c, View.read (Elt Ideal) arg2.view X2 (ix3 0 r c) = View.read (Elt Ideal) arg2.view X2 (ix3 0 r 0))
    {off : Fin 3 → Nat} [C : ClosedOff off] {inb : ∀ a, off a + S1x8x128.size a ≤ S1x512x3072.size a} {v : Vec Ideal S1x8x128 .f32}
    {o col cb l : Nat} {offA offW : Fin 2 → Nat} {inbA : ∀ a, offA a + S1536x256.size a ≤ S1536x3072.size a}
    {inbW : ∀ a, offW a + S1x128.size a ≤ S1x3072.size a}
    (ho : o + 8 ≤ 512) (hl : l + 128 ≤ 256) (hcol : col = cb + l) (hf : C.form = ![0, o, col]) (hA : offA = ![0, cb]) (hW : offW = ![0, col])
    (hv : v = shapeCast S1x8x128 (Pay.tileV
        (k0_pay6 (View.readAt (Elt Ideal) arg1.view (Rect.unit (s := S1x512x1536) ![0, 0, 0] S1x512x1536.size inb_S1x512x1536_S1x512x1536_0_0_0).toLoadRect X1)
          (View.readAt (Elt Ideal) arg3.view (Rect.unit (s := S1536x3072) offA S1536x256.size inbA).toLoadRect X3)) ![o, l] (tile_slices ho hl)
        (shapeCast S8x128 (View.readAt (Elt Ideal) arg2.view (Rect.unit (s := S1x512x128) ![0, o, 0] S1x8x128.size (rows_inb ho)).toLoadRect X2)
          shapeCasts_S1x8x128_S8x128)
        (View.readAt (Elt Ideal) arg8.view (Rect.unit (s := S1x3072) offW S1x128.size inbW).toLoadRect X8)
        (View.readAt (Elt Ideal) arg9.view (Rect.unit (s := S1x3072) offW S1x128.size inbW).toLoadRect X9))
      shapeCasts_S8x128_S1x8x128) :
    ∀ x : S1x8x128.Idx, v x = hblk arg1 arg2 arg3 arg8 arg9 X1 X2 X3 X8 X9 ((Rect.unit (s := S1x512x3072) off S1x8x128.size inb).emb x) := by
  subst hcol
  intro x
  obtain ⟨r, c, rfl⟩ := ix3_cover x
  have hor : o + r.val < 512 := by omega
  have hlc : l + c.val < 256 := by omega
  have hcol : cb + l + c.val < 3072 := by
    have h := inbW 1
    rw [hW] at h
    have h' : cb + l + 128 ≤ 3072 := h
    omega
  rw [hv, cast3_apply, Pay.tileV_apply _ _ _ _ _ _ _ r c ⟨o + r.val, hor⟩ ⟨l + c.val, hlc⟩ rfl rfl, Pay.acc_apply, cast2_apply,
    emb3 (C.eq.trans hf) inb r c ⟨o + r.val, hor⟩ ⟨cb + l + c.val, hcol⟩ rfl rfl]
  simp only [View.readAt_eq_ld]
  unfold hblk
  generalize View.read (Elt Ideal) arg1.view X1 = x0 at *
  generalize View.read (Elt Ideal) arg2.view X2 = x1 at *
  generalize View.read (Elt Ideal) arg3.view X3 = x2 at *
  generalize View.read (Elt Ideal) arg8.view X8 = W at *
  generalize View.read (Elt Ideal) arg9.view X9 = B at *
  rw [View.ld_unit_zero (S := S1x512x1536) hz]
  have e1 : View.ld x1 (Rect.unit (s := S1x512x128) ![0, o, 0] S1x8x128.size (rows_inb ho)) (ix3 0 r c) = x1 (ix3 0 ⟨o + r.val, hor⟩ 0) :=
    (congrArg x1 (emb3 rfl (rows_inb ho) r c ⟨o + r.val, hor⟩ ⟨0 + c.val, by omega⟩ rfl rfl)).trans (hx _ _)
  have e2 : ∀ k : Fin 1536, View.ld x2 (Rect.unit (s := S1536x3072) offA S1536x256.size inbA) (ix2 k (⟨l + c.val, hlc⟩ : Fin 256))
      = x2 (ix2 k (⟨cb + l + c.val, hcol⟩ : Fin 3072)) := fun k =>
    congrArg x2 (emb2 hA inbA k ⟨l + c.val, hlc⟩ k ⟨cb + l + c.val, hcol⟩ rfl (Nat.add_assoc _ _ _))
  have e3 : ∀ w : Vec Ideal S1x3072 .f32, View.ld w (Rect.unit (s := S1x3072) offW S1x128.size inbW) (ix2 0 c)
      = w (ix2 0 (⟨cb + l + c.val, hcol⟩ : Fin 3072)) := fun w =>
    congrArg w (emb2 hW inbW 0 c 0 ⟨cb + l + c.val, hcol⟩ rfl rfl)
  rw [e1, e3, e3]
  simp only [e2]
  rfl

end Trip

end Cert.HeadIdeal.Tile

end
-- ==== Proof.HTrip.lean ====
/-
  What one trip of the head kernel's loop stores agrees with one block.
-/
module

public import proofs.«01_k».proof.Proof.HTile
public import proofs.«01_k».proof.Proof.Gen.HeadIdeal.Loops
public import Idealize.ShloMosaic.Lib.Pipeline.Value
public import Idealize.ShloMosaic.Lib.Tactic

@[expose] public section

set_option maxRecDepth 16384

noncomputable section

namespace Cert.HeadIdeal.Trip

open Idealize.ShloMosaic Idealize.ShloMosaic.TcCoe Idealize.SL.Sem Cert.HeadIdeal Cert.HeadIdeal.Gen Cert.HeadIdeal.Tile

section Trip

variable (c : Dev nD) (i : grid0.Coords) (arg1 : Memref sig .tc .vmem S1x512x1536 .fp8e4m3) (harg1 : arg1.IsWhole) (arg2 : Memref sig .tc .vmem S1x512x128 .f32) (harg2 : arg2.IsWhole) (arg3 : Memref sig .tc .vmem S1536x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x512x3072 .f32) (harg6 : arg6.IsWhole) (arg7 : Memref sig .tc .vmem S12x800x128 .f32) (harg7 : arg7.IsWhole) (arg8 : Memref sig .tc .vmem S1x3072 .f32) (harg8 : arg8.IsWhole) (arg9 : Memref sig .tc .vmem S1x3072 .f32) (harg9 : arg9.IsWhole)
  (X1 : BufTy.Contents (Elt Ideal) arg1.view.ty) (X2 : BufTy.Contents (Elt Ideal) arg2.view.ty) (X3 : BufTy.Contents (Elt Ideal) arg3.view.ty) (X8 : BufTy.Contents (Elt Ideal) arg8.view.ty) (X9 : BufTy.Contents (Elt Ideal) arg9.view.ty)

set_option maxHeartbeats 0 in
/-- A trip's stores agree with the block. -/
theorem trip (hx : ∀ r c, View.read (Elt Ideal) arg2.view X2 (ix3 0 r c) = View.read (Elt Ideal) arg2.view X2 (ix3 0 r 0))
    (k : Fin k0_t1_loop.trips) : ∀ p ∈ (tripL_k0_t1 (F := Ideal) Variants.none c none i arg1 harg1 arg2 harg2 arg3 harg3 arg4 harg4 arg5 harg5 arg6 harg6 arg7 harg7 arg8 harg8 arg9 harg9 X1 X2 X3 X8 X9 k).1, ∀ x : p.1.shape.Idx,
    p.2 x = hblk arg1 arg2 arg3 arg8 arg9 X1 X2 X3 X8 X9 (p.1.emb x) := by
  dsimp only [tripL_k0_t1]
  unfold trip_k0_t1
  dsimp only
  iterate 64
    refine List.forall_mem_cons.mpr ⟨?_, ?_⟩
    · dsimp only
      exact tile_ok arg1 arg2 arg3 arg8 arg9 X1 X2 X3 X8 X9 hx (l := 128) (col := 256 * k.val + 128 * 1 + 1536) (inbA := k0_off2_inb k)
        (inbW := k0_off4_inb k 1) (by decide) (by decide) (by omega) rfl (k0_off2_eq k) (k0_off4_eq k 1) (by rfl)
    refine List.forall_mem_cons.mpr ⟨?_, ?_⟩
    · dsimp only
      exact tile_ok arg1 arg2 arg3 arg8 arg9 X1 X2 X3 X8 X9 hx (l := 128) (col := 256 * k.val + 128 * 1) (inbA := k0_off1_inb k)
        (inbW := k0_off3_inb k 1) (by decide) (by decide) (by omega) rfl (k0_off1_eq k) (k0_off3_eq k 1) (by rfl)
  iterate 64
    refine List.forall_mem_cons.mpr ⟨?_, ?_⟩
    · dsimp only
      exact tile_ok arg1 arg2 arg3 arg8 arg9 X1 X2 X3 X8 X9 hx (l := 0) (col := 256 * k.val + 128 * 0 + 1536) (inbA := k0_off2_inb k)
        (inbW := k0_off4_inb k 0) (by decide) (by decide) (by omega) rfl (k0_off2_eq k) (k0_off4_eq k 0) (by rfl)
    refine List.forall_mem_cons.mpr ⟨?_, ?_⟩
    · dsimp only
      exact tile_ok arg1 arg2 arg3 arg8 arg9 X1 X2 X3 X8 X9 hx (l := 0) (col := 256 * k.val + 128 * 0) (inbA := k0_off1_inb k)
        (inbW := k0_off3_inb k 0) (by decide) (by decide) (by omega) rfl (k0_off1_eq k) (k0_off3_eq k 0) (by rfl)
  exact fun p hp => absurd hp List.not_mem_nil

end Trip

end Cert.HeadIdeal.Trip

end
-- ==== Proof.HBlk.lean ====
/-
  What one grid point's body leaves in the head kernel's output block and its carried scratch.
-/
module

public import proofs.«01_k».proof.Proof.HTrip
public import proofs.«01_k».proof.Proof.Gen.HeadIdeal.Value
public import Idealize.ShloMosaic.Lib.Pipeline.Value
public import Idealize.ShloMosaic.Lib.Tactic

@[expose] public section

set_option maxRecDepth 16384

noncomputable section

namespace Cert.HeadIdeal.Blk

open Idealize.ShloMosaic Idealize.ShloMosaic.TcCoe Idealize.SL.Sem Cert.HeadIdeal Cert.HeadIdeal.Gen Cert.HeadIdeal.Tile

/-- The halved scale or bias of every column, as the kernel keeps it. -/
def halved (w : Vec Ideal S1x3072 .f32) : Vec Ideal S1x3072 .f32 := fun y => w y * Ideal.ofBits .f32 0x3F000000#32

theorem pay1_eq (w : Vec Ideal S1x3072 .f32) : k0_pay1 w = halved w := by
  funext y
  unfold halved
  pointwise [k0_pay1]

theorem pay2_eq (w : Vec Ideal S1x3072 .f32) : k0_pay2 w = halved w := by
  funext y
  unfold halved
  pointwise [k0_pay2]

theorem hz2 : (![0, 0] : Fin 2 → Nat) = fun _ => 0 := funext fun a => by fin_cases a <;> rfl

/-- A scratch holds what one store of it whole wrote. -/
theorem read_whole (M : Memref sig .tc .vmem S1x3072 .f32) (f : BufTy.Contents (Elt Ideal) M.view.ty) (v : Vec Ideal S1x3072 .f32) :
    View.read (Elt Ideal) M.view (M.view.writes (Elt Ideal) f [⟨Rect.unit ![0, 0] S1x3072.size inb_S1x3072_S1x3072_0_0, v⟩]) = v := by
  rw [View.read_writes_eq_canon _ _ _ (View.cover_of_tiledL [(⟨Rect.unit ![0, 0] S1x3072.size inb_S1x3072_S1x3072_0_0, v⟩ : View.Piece (Elt Ideal) S1x3072 .f32)] S1x3072.size (by sl_kernel_rfl))]
  exact View.canon_unit_zero hz2 _ _

/-- A block from its inputs and the halved scales and biases. -/
def oblk (x0 : Vec Ideal S1x512x1536 .fp8e4m3) (x1 : Vec Ideal S1x512x128 .f32) (x2 : Vec Ideal S1536x3072 .fp8e4m3)
    (W B : Vec Ideal S1x3072 .f32) : Vec Ideal S1x512x3072 .f32 := fun y => hrow x0 x1 x2 W B (y 1) (y 2)

section Body

variable (c : Dev nD) (i : grid0.Coords) (arg1 : Memref sig .tc .vmem S1x512x1536 .fp8e4m3) (harg1 : arg1.IsWhole) (arg2 : Memref sig .tc .vmem S1x512x128 .f32) (harg2 : arg2.IsWhole) (arg3 : Memref sig .tc .vmem S1536x3072 .fp8e4m3) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x512x3072 .f32) (harg6 : arg6.IsWhole) (arg7 : Memref sig .tc .vmem S12x800x128 .f32) (harg7 : arg7.IsWhole) (arg8 : Memref sig .tc .vmem S1x3072 .f32) (harg8 : arg8.IsWhole) (arg9 : Memref sig .tc .vmem S1x3072 .f32) (harg9 : arg9.IsWhole)
  (X1 : BufTy.Contents (Elt Ideal) arg1.view.ty) (X2 : BufTy.Contents (Elt Ideal) arg2.view.ty) (X3 : BufTy.Contents (Elt Ideal) arg3.view.ty) (X8 : BufTy.Contents (Elt Ideal) arg8.view.ty) (X9 : BufTy.Contents (Elt Ideal) arg9.view.ty)

theorem pieces (hx : ∀ r c, View.read (Elt Ideal) arg2.view X2 (ix3 0 r c) = View.read (Elt Ideal) arg2.view X2 (ix3 0 r 0)) :
    ∀ n : ℕ, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 X1 X2 X3 X8 X9 n).1, ∀ x : p.1.shape.Idx,
    p.2 x = hblk arg1 arg2 arg3 arg8 arg9 X1 X2 X3 X8 X9 (p.1.emb x)
  | 0, _ => by
    intro p hp
    rw [pb_k0_t1.eq_1] at hp
    exact absurd hp List.not_mem_nil
  | n + 1, hn => by
    intro p hp x
    have e := pb_k0_t1_succ (F := Ideal) Variants.none c none i arg1 harg1 arg2 harg2 arg3 harg3 arg4 harg4 arg5 harg5 arg6 harg6 arg7 harg7 arg8 harg8 arg9 harg9 X1 X2 X3 X8 X9 ⟨n, hn⟩
    rw [show n + 1 = (⟨n, hn⟩ : Fin k0_t1_loop.trips).val + 1 from rfl, e] at hp
    rcases List.mem_append.mp hp with h | h
    · exact Trip.trip c i arg1 harg1 arg2 harg2 arg3 harg3 arg4 harg4 arg5 harg5 arg6 harg6 arg7 harg7 arg8 harg8 arg9 harg9 X1 X2 X3 X8 X9 hx ⟨n, hn⟩ p h x
    · exact pieces hx n (Nat.le_of_succ_le hn) p h x

/-- The same, for a block known to be the one they agree with. -/
theorem pieces_of (hx : ∀ r c, View.read (Elt Ideal) arg2.view X2 (ix3 0 r c) = View.read (Elt Ideal) arg2.view X2 (ix3 0 r 0))
    (G : Vec Ideal S1x512x3072 .f32) (hG : hblk arg1 arg2 arg3 arg8 arg9 X1 X2 X3 X8 X9 = G) (n : ℕ) (hn : n ≤ k0_t1_loop.trips) :
    ∀ p ∈ (pb_k0_t1 (F := Ideal) Variants.none c none i arg1 harg1 arg2 harg2 arg3 harg3 arg4 harg4 arg5 harg5 arg6 harg6 arg7 harg7 arg8 harg8 arg9 harg9 X1 X2 X3 X8 X9 n).1, ∀ x : p.1.shape.Idx, p.2 x = G (p.1.emb x) := by
  subst hG
  exact pieces c i arg1 harg1 arg2 harg2 arg3 harg3 arg4 harg4 arg5 harg5 arg6 harg6 arg7 harg7 arg8 harg8 arg9 harg9 X1 X2 X3 X8 X9 hx n hn

variable (x0 : Vec Ideal S1x512x1536 .fp8e4m3) (x1 : Vec Ideal S1x512x128 .f32) (x2 : Vec Ideal S1536x3072 .fp8e4m3) (x3 x4 xs1 xs2 : Vec Ideal S1x3072 .f32)

/-- At the first point: the scales and biases halved there. -/
theorem outA_eq (hc0 : cond0_0 i) (hx : ∀ r c, x1 (ix3 0 r c) = x1 (ix3 0 r 0)) :
    out0_A_5 (F := Ideal) c i arg1 harg1 arg2 harg2 arg3 harg3 arg4 harg4 arg5 harg5 arg6 harg6 arg7 harg7 arg8 harg8 arg9 harg9 hc0 x0 x1 x2 x3 x4 = oblk x0 x1 x2 (halved x3) (halved x4) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  funext y
  refine View.canon_apply_of_pieces _ _ ?_ y (cover0_A_5 c i arg1 harg1 arg2 harg2 arg3 harg3 arg4 harg4 arg5 harg5 arg6 harg6 arg7 harg7 arg8 harg8 arg9 harg9 hc0 x0 x1 x2 x3 x4 y)
  unfold kernelRun0_A
  dsimp only
  sl_unfold_run_names
  refine pieces_of c i arg1 harg1 arg2 harg2 arg3 harg3 arg4 harg4 arg5 harg5 arg6 harg6 arg7 harg7 arg8 harg8 arg9 harg9 _ _ _ _ _ (by simpa only [harg2.read_unread] using hx) _ ?_ _ (Nat.le_refl _)
  unfold hblk oblk
  simp only [harg1.read_unread, harg2.read_unread, harg3.read_unread, pay1_eq, pay2_eq, View.readAt_eq_ld, harg4.read_unread, harg5.read_unread,
    View.ld_unit_zero (S := S1x3072) hz2]
  exact congrArg₂ (fun W B => (fun y => hrow x0 x1 x2 W B (y 1) (y 2) : Vec Ideal S1x512x3072 .f32)) (read_whole arg8 _ _) (read_whole arg9 _ _)

/-- At a later point: those the scratch carries. -/
theorem outB_eq (hc0 : ¬cond0_0 i) (hx : ∀ r c, x1 (ix3 0 r c) = x1 (ix3 0 r 0)) :
    out0_B_5 (F := Ideal) c i arg1 harg1 arg2 harg2 arg3 harg3 arg4 harg4 arg5 harg5 arg6 harg6 arg7 harg7 arg8 harg8 arg9 harg9 hc0 x0 x1 x2 x3 x4 xs1 xs2 = oblk x0 x1 x2 xs1 xs2 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xs1 xs2)]
  funext y
  refine View.canon_apply_of_pieces _ _ ?_ y (cover0_B_5 c i arg1 harg1 arg2 harg2 arg3 harg3 arg4 harg4 arg5 harg5 arg6 harg6 arg7 harg7 arg8 harg8 arg9 harg9 hc0 x0 x1 x2 x3 x4 xs1 xs2 y)
  unfold kernelRun0_B
  dsimp only
  refine pieces_of c i arg1 harg1 arg2 harg2 arg3 harg3 arg4 harg4 arg5 harg5 arg6 harg6 arg7 harg7 arg8 harg8 arg9 harg9 _ _ _ _ _ (by simpa only [harg2.read_unread] using hx) _ ?_ _ (Nat.le_refl _)
  unfold hblk oblk
  simp only [harg1.read_unread, harg2.read_unread, harg3.read_unread, harg8.read_unread, harg9.read_unread]

theorem soutA1_eq (hc0 : cond0_0 i) : sout0_A_1 (F := Ideal) c i arg1 harg1 arg2 harg2 arg3 harg3 arg4 harg4 arg5 harg5 arg6 harg6 arg7 harg7 arg8 harg8 arg9 harg9 hc0 x0 x1 x2 x3 x4 = halved x3 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz2, pay1_eq]
  simp only [View.readAt_eq_ld, harg4.read_unread, View.ld_unit_zero (S := S1x3072) hz2]

theorem soutA2_eq (hc0 : cond0_0 i) : sout0_A_2 (F := Ideal) c i arg1 harg1 arg2 harg2 arg3 harg3 arg4 harg4 arg5 harg5 arg6 harg6 arg7 harg7 arg8 harg8 arg9 harg9 hc0 x0 x1 x2 x3 x4 = halved x4 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz2, pay2_eq]
  simp only [View.readAt_eq_ld, harg5.read_unread, View.ld_unit_zero (S := S1x3072) hz2]

end Body

end Cert.HeadIdeal.Blk

end
-- ==== Proof.HSpec.lean ====
/-
  Half the first product's pre-activation, as a function of the argument arrays.
-/
module

public import proofs.«01_k».proof.Proof.Scale
public import Idealize.ShloMosaic.Lib.Pointwise

@[expose] public section

noncomputable section

namespace Cert.HSpec

open Idealize.ShloMosaic

/-- One half. -/
def hf : EReal := Ideal.ofBits .f32 0x3F000000#32

/-- Half a value. -/
def hv (x : EReal) : EReal := x * hf

theorem hf_eq : hf = ((Scale.two (-1) : ℝ) : EReal) :=
  (show hf = Scale.F 126 by
    unfold hf Scale.F; rfl).trans (Scale.F_eq (n := 126) (by decide) (by decide))

/-- Halving the scale and the bias beforehand halves the sum: one half is finite and not negative. -/
theorem halve (a s w b : EReal) : a * s * (w * hf) + b * hf = (a * s * w + b) * hf := by
  have h0 : 0 ≤ hf := by rw [hf_eq]; exact EReal.coe_nonneg.mpr (Scale.two_pos _).le
  have h1 : hf ≠ ⊤ := by rw [hf_eq]; exact EReal.coe_ne_top _
  rw [EReal.right_distrib_of_nonneg_of_ne_top h0 h1, mul_assoc (a * s)]

variable (q : (⟨3, ![3, 512, 1536]⟩ : Shape).Idx → EReal) (s : (⟨3, ![3, 512, 1]⟩ : Shape).Idx → EReal)
  (w : (⟨2, ![1536, 3072]⟩ : Shape).Idx → EReal) (ws b : (⟨1, ![3072]⟩ : Shape).Idx → EReal)

/-- Half the pre-activation in row `(t, r)` and column `c`. -/
def cell (t : Fin 3) (r : Fin 512) (c : Fin 3072) : EReal :=
  ((∑ k : Fin 1536, q (ix3 t r k) * w (ix2 k c)) * s (ix3 t r 0) * ws (ix1 c) + b (ix1 c)) * hf

/-- Half the pre-activations. -/
def half (y : (⟨3, ![3, 512, 3072]⟩ : Shape).Idx) : EReal := cell q s w ws b (y 0) (y 1) (y 2)

end Cert.HSpec

end
-- ==== Proof.HArrK.lean ====
/-
  The halved pre-activations the kernel leaves, as a function of its arguments.
-/
module

public import proofs.«01_k».proof.Proof.HBlk
public import proofs.«01_k».proof.Proof.HSpec
public import proofs.«01_k».proof.Proof.Gen.HeadIdeal.Value
public import Idealize.ShloMosaic.Lib.Pipeline.ValueKit
public import Idealize.ShloMosaic.Lib.Claim

@[expose] public section

set_option maxRecDepth 16384

noncomputable section

namespace Cert.HeadIdeal.Arr

open Idealize.ShloMosaic Idealize.ShloMosaic.TcCoe Idealize.SL.Sem Cert.HeadIdeal Cert.HeadIdeal.Gen Cert.HeadIdeal.Blk Cert.HeadIdeal.Tile
open Idealize.ShloMosaic.Pipeline (Dat)

variable (m : (ℓ : Loc nD τ sig) → Buf (Elt Ideal) ℓ) (c : Dev nD)

/-- Where each window's block lies. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![t.val, 0, 0] := by
  decide +kernel

theorem lt3 (t : Fin cfg0.N) : t.val < 3 := Nat.lt_of_lt_of_eq t.isLt N_0

theorem blk0 (t : Fin cfg0.N) (r : Fin 512) (k : Fin 1536) :
    iblk m c 0 t (ix3 0 r k) = m ((c : Thread nD τ).loc main_arg0) (ix3 ⟨t.val, lt3 t⟩ r k) := by
  blk_ext [iblk, V_main_arg0, idx t]

theorem blk1 (t : Fin cfg0.N) (r : Fin 512) (k : Fin 128) :
    iblk m c 1 t (ix3 0 r k) = m ((c : Thread nD τ).loc main_arg1) (ix3 ⟨t.val, lt3 t⟩ r 0) := by
  blk_ext! [iblk, idx t]

theorem blk2 (t : Fin cfg0.N) (r : Fin 1536) (k : Fin 3072) :
    iblk m c 2 t (ix2 r k) = m ((c : Thread nD τ).loc main_arg2) (ix2 r k) := by
  blk_ext [iblk, V_main_arg2, idx t]

theorem blk3 (t : Fin cfg0.N) (k : Fin 3072) :
    iblk m c 3 t (ix2 0 k) = m ((c : Thread nD τ).loc main_arg3) (ix1 k) := by
  blk_ext! [iblk, idx t]

theorem blk4 (t : Fin cfg0.N) (k : Fin 3072) :
    iblk m c 4 t (ix2 0 k) = m ((c : Thread nD τ).loc main_arg4) (ix1 k) := by
  blk_ext! [iblk, idx t]

theorem emb5 (t : Fin cfg0.N) (y : S1x512x3072.Idx) :
    ((View.whole main_v3).slice (win0_5.rect t)).emb y = ix3 (⟨t.val, lt3 t⟩ : Fin 3) (y 1 : Fin 512) (y 2 : Fin 3072) := by
  blk_ext [idx t]

/-- The rows of scales hold one value per row. -/
theorem same (t : Fin cfg0.N) (r : Fin 512) (k : Fin 128) : iblk m c 1 t (ix3 0 r k) = iblk m c 1 t (ix3 0 r 0) :=
  (blk1 m c t r k).trans (blk1 m c t r 0).symm

/-- Every point leaves the halved scales and biases in the scratch. -/
theorem carried (n : ℕ) (hn : n < cfg0.N) (k : Fin 3072) :
    (outsAt0 m c n hn).2.1 (ix2 0 k) = HSpec.hv (m ((c : Thread nD τ).loc main_arg3) (ix1 k))
      ∧ (outsAt0 m c n hn).2.2 (ix2 0 k) = HSpec.hv (m ((c : Thread nD τ).loc main_arg4) (ix1 k)) := by
  induction n with
  | zero =>
    have e := outsAt0_A m c ⟨0, hn⟩ rfl
    dsimp only at e
    rw [e]
    dsimp only
    rw [soutA1_eq, soutA2_eq]
    unfold halved
    rw [blk3, blk4]
    exact ⟨rfl, rfl⟩
  | succ n ih =>
    have h3 : n + 1 < 3 := lt3 ⟨n + 1, hn⟩
    have e := outsAt0_B m c ⟨n + 1, hn⟩ (by dsimp only; omega)
    dsimp only at e
    rw [e]
    exact ih _

/-- A block's cell, from halved scales and biases. -/
theorem cell_eq (t : Fin cfg0.N) (W B : Vec Ideal S1x3072 .f32)
    (hW : ∀ k, W (ix2 0 k) = HSpec.hv (m ((c : Thread nD τ).loc main_arg3) (ix1 k)))
    (hB : ∀ k, B (ix2 0 k) = HSpec.hv (m ((c : Thread nD τ).loc main_arg4) (ix1 k))) (r : Fin 512) (k : Fin 3072) :
    hrow (iblk m c 0 t) (iblk m c 1 t) (iblk m c 2 t) W B r k
      = HSpec.cell (m ((c : Thread nD τ).loc main_arg0)) (m ((c : Thread nD τ).loc main_arg1)) (m ((c : Thread nD τ).loc main_arg2)) (m ((c : Thread nD τ).loc main_arg3)) (m ((c : Thread nD τ).loc main_arg4)) ⟨t.val, lt3 t⟩ r k := by
  refine Eq.trans ?_ (HSpec.halve ..)
  unfold hrow
  rw [hW, hB]
  unfold HSpec.hv
  simp only [blk0, blk1, blk2]

/-- What the kernel leaves in its output array. -/
theorem final5 : (dats m 0 c).arrAt 5 cfg0.N = HSpec.half (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, emb5]
  by_cases h0 : t.val % 3 = 0
  · rw [outsAt0_A m c t h0]
    dsimp only
    rw [outA_eq (hx := same m c t)]
    refine cell_eq m c t _ _ (fun k => ?_) (fun k => ?_) _ _
    · exact congrArg HSpec.hv (blk3 m c t k)
    · exact congrArg HSpec.hv (blk4 m c t k)
  · rw [outsAt0_B m c t h0]
    dsimp only
    rw [outB_eq (hx := same m c t)]
    exact cell_eq m c t _ _ (fun k => (carried m c _ _ k).1) (fun k => (carried m c _ _ k).2) _ _

end Cert.HeadIdeal.Arr

end
-- ==== Proof.HArrR.lean ====
/-
  The reference's halved pre-activations as a function of its arguments.
-/
module

public import proofs.«01_k».proof.Proof.HSpec
public import proofs.«01_k».proof.Proof.Gen.HeadReferenceIdeal.Value
public import Idealize.ShloMosaic.Lib.Pipeline.ValueKit
public import Idealize.ShloMosaic.Lib.Claim

@[expose] public section

set_option maxRecDepth 16384

noncomputable section

namespace Cert.HeadReferenceIdeal.Arr

open Idealize.ShloMosaic Idealize.ShloMosaic.TcCoe Idealize.SL.Sem Cert.HeadReferenceIdeal Cert.HeadReferenceIdeal.Gen
open Idealize.ShloMosaic.Pipeline (Dat)

theorem hz2 : (![0, 0] : Fin 2 → Nat) = fun _ => 0 := funext fun a => by fin_cases a <;> rfl

theorem hz3 : (![0, 0, 0] : Fin 3 → Nat) = fun _ => 0 := funext fun a => by fin_cases a <;> rfl

theorem ix3_cover (y : S3x512x3072.Idx) : ∃ (t : Fin 3) (r : Fin 512) (c : Fin 3072), y = ix3 t r c :=
  ⟨y 0, y 1, y 2, by
    funext a
    match a with
    | ⟨0, _⟩ => rfl
    | ⟨1, _⟩ => rfl
    | ⟨2, _⟩ => rfl⟩

section Whole

variable (x0 : Vec Ideal S3x512x1536 .fp8e4m3) (x1 : Vec Ideal S3x512x1 .f32) (x2 : Vec Ideal S1536x3072 .fp8e4m3)
  (x3 x4 : Vec Ideal S1x1x3072 .f32) (t : Fin 3) (r : Fin 512) (c : Fin 3072)

theorem pay_apply : k0_pay1 x0 x2 x1 x3 x4 (ix3 t r c)
    = ((∑ k : Fin 1536, x0 (ix3 t r k) * x2 (ix2 k c)) * x1 (ix3 t r 0) * x3 (ix3 0 0 c) + x4 (ix3 0 0 c)) * HSpec.hf := by
  unfold HSpec.hf
  pointwise [k0_pay1]

theorem out5_eq : out0_5 x0 x1 x2 x3 x4 (ix3 t r c)
    = ((∑ k : Fin 1536, x0 (ix3 t r k) * x2 (ix2 k c)) * x1 (ix3 t r 0) * x3 (ix3 0 0 c) + x4 (ix3 0 0 c)) * HSpec.hf := by
  unfold out0_5
  rw [View.canon_unit_zero hz3]
  simp only [View.ld_unit_zero (S := S3x512x1536) hz3, View.ld_unit_zero (S := S3x512x1) hz3, View.ld_unit_zero (S := S1x1x3072) hz3,
    View.ld_unit_zero (S := S1536x3072) hz2]
  exact pay_apply ..

end Whole

variable (m : (ℓ : Loc nD τ sig) → Buf (Elt Ideal) ℓ) (c : Dev nD)

/-- Where each window's block lies. -/
theorem idx : ∀ t : Fin cfg0.N, win0_0.index t = ![0, 0, 0] ∧ win0_1.index t = ![0, 0, 0] ∧ win0_2.index t = ![0, 0]
    ∧ win0_3.index t = ![0, 0, 0] ∧ win0_4.index t = ![0, 0, 0] ∧ win0_5.index t = ![0, 0, 0] := by
  decide +kernel

theorem blk0 (u : Fin cfg0.N) (t : Fin 3) (r : Fin 512) (k : Fin 1536) :
    iblk m c 0 u (ix3 t r k) = m ((c : Thread nD τ).loc main_arg0) (ix3 t r k) := by
  blk_ext [iblk, V_main_arg0, idx u]

theorem blk1 (u : Fin cfg0.N) (t : Fin 3) (r : Fin 512) :
    iblk m c 1 u (ix3 t r 0) = m ((c : Thread nD τ).loc main_arg1) (ix3 t r 0) := by
  blk_ext [iblk, V_main_arg1, idx u]

theorem blk2 (u : Fin cfg0.N) (r : Fin 1536) (k : Fin 3072) :
    iblk m c 2 u (ix2 r k) = m ((c : Thread nD τ).loc main_arg2) (ix2 r k) := by
  blk_ext [iblk, V_main_arg2, idx u]

theorem blk3 (u : Fin cfg0.N) (k : Fin 3072) :
    iblk m c 3 u (ix3 0 0 k) = m ((c : Thread nD τ).loc main_arg3) (ix1 k) := by
  blk_ext! [iblk, idx u]

theorem blk4 (u : Fin cfg0.N) (k : Fin 3072) :
    iblk m c 4 u (ix3 0 0 k) = m ((c : Thread nD τ).loc main_arg4) (ix1 k) := by
  blk_ext! [iblk, idx u]

theorem emb5 (u : Fin cfg0.N) (y : S3x512x3072.Idx) :
    ((View.whole main_v2).slice (win0_5.rect u)).emb y = y := by
  blk_ext [idx u]

/-- The reference's output array. -/
theorem final5 : (dats m 0 c).arrAt 5 cfg0.N = HSpec.half (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun u hf y => ?_
  blk_simp
  rw [after0_5, emb5]
  obtain ⟨t, r, k, rfl⟩ := ix3_cover y
  rw [out5_eq]
  simp only [blk0, blk1, blk2, blk3, blk4]
  rfl

end Cert.HeadReferenceIdeal.Arr

end
-- ==== Proof.lean ====
/-
  The proof of `Cert.Claim`: the nine programs run and leave their arguments alone, and each of the three kernels'
  results equal its reference's over the extended reals.
-/
module

public import proofs.«01_k».proof.Proof.Gen.Norm.Frame
public import proofs.«01_k».proof.Proof.Gen.NormIdeal.Value
public import proofs.«01_k».proof.Proof.Gen.NormReferenceIdeal.Value
public import proofs.«01_k».proof.Proof.Gen.Norm
public import proofs.«01_k».proof.Proof.Gen.NormIdeal
public import proofs.«01_k».proof.Proof.Gen.NormReferenceIdeal
public import proofs.«01_k».proof.Proof.Gen.Head.Frame
public import proofs.«01_k».proof.Proof.Gen.HeadIdeal.Value
public import proofs.«01_k».proof.Proof.Gen.HeadReferenceIdeal.Value
public import proofs.«01_k».proof.Proof.Gen.Head
public import proofs.«01_k».proof.Proof.Gen.HeadIdeal
public import proofs.«01_k».proof.Proof.Gen.HeadReferenceIdeal
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelIdeal.Value
public import proofs.«01_k».proof.Proof.ArrK
public import proofs.«01_k».proof.Proof.ArrR
public import proofs.«01_k».proof.Proof.NArrK
public import proofs.«01_k».proof.Proof.NArrR
public import proofs.«01_k».proof.Proof.HArrK
public import proofs.«01_k».proof.Proof.HArrR
public import Idealize.ShloMosaic.Adequacy
public import Idealize.ShloMosaic.Init

@[expose] public section

noncomputable section

namespace Cert.Proof

open Idealize.ShloMosaic Idealize.SL.Sem Cert.Kernel

/-- Both programs compute `Spec.out` and `Spec.codes` of their arguments. -/
theorem algebraic : algebraic_KernelIdeal_ReferenceIdeal (hKernelIdeal := Cert.KernelIdeal.Gen.facts)
    (hReferenceIdeal := Cert.ReferenceIdeal.Gen.facts) := by
  intro m g m' g' _ hag
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.codes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    (θ_run _ _ _).mono (fun r h c => ?_) (Cert.KernelIdeal.Value.run_blocks m g),
    (θ_run _ _ _).mono (fun r h c => ?_) (Cert.ReferenceIdeal.Value.run_blocks m' g')⟩
  · obtain ⟨a, b, h⟩ := h c
    exact ⟨a.trans (Cert.KernelIdeal.Arr.final8 m c), b.trans (Cert.KernelIdeal.Arr.final9 m c), h⟩
  · obtain ⟨a, b, h⟩ := h c
    obtain ⟨h0, h1, h2, h3, h4, h5, h6, h7⟩ := hag c
    have e8 : Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
      congr (congr (congr (congr (congr (congrArg Cert.Spec.out h0) h1) h2) h3) h4) h5
    have e9 : Cert.Spec.codes (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = Cert.Spec.codes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
      congr (congr (congr (congr (congr (congr (congr (congrArg Cert.Spec.codes h0) h1) h2) h3) h4) h5) h6) h7
    exact ⟨(a.trans (Cert.ReferenceIdeal.Arr.final8 m' c)).trans e8, (b.trans (Cert.ReferenceIdeal.Arr.final9 m' c)).trans e9, h⟩

/-- Both programs compute `NSpec.codes` and `NSpec.scales` of their arguments. -/
theorem algebraicNorm : algebraic_NormIdeal_NormReferenceIdeal (hNormIdeal := Cert.NormIdeal.Gen.facts)
    (hNormReferenceIdeal := Cert.NormReferenceIdeal.Gen.facts) := by
  intro m g m' g' _ hag
  refine ⟨fun c => Cert.NSpec.codes (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)),
    fun c => Cert.NSpec.scales (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)),
    (θ_run _ _ _).mono (fun r h c => ?_) (Cert.NormIdeal.Value.run_blocks m g),
    (θ_run _ _ _).mono (fun r h c => ?_) (Cert.NormReferenceIdeal.Value.run_blocks m' g')⟩
  · obtain ⟨a, b, h⟩ := h c
    exact ⟨a.trans (Cert.NormIdeal.Arr.final3 m c), b.trans (Cert.NormIdeal.Arr.final4 m c), h⟩
  · obtain ⟨a, b, h⟩ := h c
    obtain ⟨h0, h1, h2⟩ := hag c
    exact ⟨(a.trans (Cert.NormReferenceIdeal.Arr.final3 m' c)).trans (congr (congr (congrArg Cert.NSpec.codes h0) h1) h2), (b.trans (Cert.NormReferenceIdeal.Arr.final4 m' c)).trans (congr (congr (congrArg Cert.NSpec.scales h0) h1) h2), h⟩

/-- Both programs compute `HSpec.half` of their arguments. -/
theorem algebraicHead : algebraic_HeadIdeal_HeadReferenceIdeal (hHeadIdeal := Cert.HeadIdeal.Gen.facts)
    (hHeadReferenceIdeal := Cert.HeadReferenceIdeal.Gen.facts) := by
  intro m g m' g' _ hag
  refine ⟨fun c => Cert.HSpec.half (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)),
    (θ_run _ _ _).mono (fun r h c => ?_) (Cert.HeadIdeal.Value.run_blocks m g),
    (θ_run _ _ _).mono (fun r h c => ?_) (Cert.HeadReferenceIdeal.Value.run_blocks m' g')⟩
  · obtain ⟨a, h⟩ := h c
    exact ⟨a.trans (Cert.HeadIdeal.Arr.final5 m c), h⟩
  · obtain ⟨a, h⟩ := h c
    obtain ⟨h0, h1, h2, h3, h4⟩ := hag c
    exact ⟨(a.trans (Cert.HeadReferenceIdeal.Arr.final5 m' c)).trans (congr (congr (congr (congr (congrArg Cert.HSpec.half h0) h1) h2) h3) h4), h⟩

theorem claim : Cert.Claim := ⟨Cert.Kernel.Gen.facts, Cert.KernelIdeal.Gen.facts, Cert.ReferenceIdeal.Gen.facts, Cert.Norm.Gen.facts, Cert.NormIdeal.Gen.facts, Cert.NormReferenceIdeal.Gen.facts, Cert.Head.Gen.facts, Cert.HeadIdeal.Gen.facts, Cert.HeadReferenceIdeal.Gen.facts,
  fun m ρ _ => Cert.Kernel.Gen.frame m ρ,
  fun m ρ _ => Cert.KernelIdeal.Gen.frame m ρ,
  fun m ρ _ => Cert.ReferenceIdeal.Gen.frame m ρ,
  fun m ρ _ => Cert.Norm.Gen.frame m ρ,
  fun m ρ _ => Cert.NormIdeal.Gen.frame m ρ,
  fun m ρ _ => Cert.NormReferenceIdeal.Gen.frame m ρ,
  fun m ρ _ => Cert.Head.Gen.frame m ρ,
  fun m ρ _ => Cert.HeadIdeal.Gen.frame m ρ,
  fun m ρ _ => Cert.HeadReferenceIdeal.Gen.frame m ρ,
  trivial, algebraic, trivial, algebraicNorm, trivial, algebraicHead⟩

end Cert.Proof

end
